-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v51) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v11_0)) (v1 : (c : Dev Cert.Kernel7Ideal.nD) → Buf (Elt Ideal) ((c.tc : Thread Cert.Kernel7Ideal.nD Cert.Kernel7Ideal.τ).loc Cert.Kernel7Ideal.main_v11_1)) (v2 : (c : Dev Cert.Kernel7Ideal.nD) → Buf (Elt Ideal) ((c.tc : Thread Cert.Kernel7Ideal.nD Cert.Kernel7Ideal.τ).loc Cert.Kernel7Ideal.main_v11_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v11_0) = v0 c
          ∧ r.2.mem ((c.tc : Thread Cert.Kernel7Ideal.nD Cert.Kernel7Ideal.τ).loc Cert.Kernel7Ideal.main_v11_1) = v1 c
          ∧ r.2.mem ((c.tc : Thread Cert.Kernel7Ideal.nD Cert.Kernel7Ideal.τ).loc Cert.Kernel7Ideal.main_v11_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v66) = v0 c
          ∧ r.2.mem ((c.tc : Thread Cert.Reference7Ideal.nD Cert.Reference7Ideal.τ).loc Cert.Reference7Ideal.main_v69) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
-- ==== Kernel.lean ====
abbrev S16384x14336 : Shape := ⟨2, ![16384, 14336]⟩
abbrev S2x8704x128 : Shape := ⟨3, ![2, 8704, 128]⟩
abbrev S2x8704x256 : Shape := ⟨3, ![2, 8704, 256]⟩
abbrev S16x128x256 : Shape := ⟨3, ![16, 128, 256]⟩
abbrev S16x256x128 : Shape := ⟨3, ![16, 256, 128]⟩
abbrev S16384x2048 : Shape := ⟨2, ![16384, 2048]⟩
abbrev S128x2048 : Shape := ⟨2, ![128, 2048]⟩
abbrev S1x128x128 : Shape := ⟨3, ![1, 128, 128]⟩
abbrev S1x8704x128 : Shape := ⟨3, ![1, 8704, 128]⟩
abbrev S1x8704x256 : Shape := ⟨3, ![1, 8704, 256]⟩
abbrev S128x8704 : Shape := ⟨2, ![128, 8704]⟩
abbrev S32x128x384 : Shape := ⟨3, ![32, 128, 384]⟩
abbrev S128x384 : Shape := ⟨2, ![128, 384]⟩
abbrev S2048x128 : Shape := ⟨2, ![2048, 128]⟩
abbrev S2048x256 : Shape := ⟨2, ![2048, 256]⟩
abbrev S128x512 : Shape := ⟨2, ![128, 512]⟩
abbrev S2048x512 : Shape := ⟨2, ![2048, 512]⟩
abbrev S128x128 : Shape := ⟨2, ![128, 128]⟩
abbrev S128x16 : Shape := ⟨2, ![128, 16]⟩
abbrev S128x1 : Shape := ⟨2, ![128, 1]⟩
abbrev S1x512x128 : Shape := ⟨3, ![1, 512, 128]⟩
abbrev S512x128 : Shape := ⟨2, ![512, 128]⟩
abbrev S1x8x128 : Shape := ⟨3, ![1, 8, 128]⟩
abbrev S8x128 : Shape := ⟨2, ![8, 128]⟩
abbrev S1x128x384 : Shape := ⟨3, ![1, 128, 384]⟩
abbrev S128 : Shape := ⟨1, ![128]⟩
abbrev S1x128x256 : Shape := ⟨3, ![1, 128, 256]⟩
abbrev S128x256 : Shape := ⟨2, ![128, 256]⟩
abbrev S1x512x256 : Shape := ⟨3, ![1, 512, 256]⟩
abbrev S512x256 : Shape := ⟨2, ![512, 256]⟩
abbrev S64x512 : Shape := ⟨2, ![64, 512]⟩
abbrev S64x256 : Shape := ⟨2, ![64, 256]⟩
abbrev S1x64x256 : Shape := ⟨3, ![1, 64, 256]⟩
abbrev S64x128 : Shape := ⟨2, ![64, 128]⟩
abbrev S64 : Shape := ⟨1, ![64]⟩
abbrev S64x1 : Shape := ⟨2, ![64, 1]⟩
abbrev S1 : Shape := ⟨1, ![1]⟩
abbrev S1x1x1 : Shape := ⟨3, ![1, 1, 1]⟩
abbrev S1x256x128 : Shape := ⟨3, ![1, 256, 128]⟩
abbrev S256x128 : Shape := ⟨2, ![256, 128]⟩

abbrev nBuf : Space → Nat
  | .hbm => 10
  | .vmem => 27
  | .smem => 0
  | _ => 0

abbrev bufTy : (tb : Table) → Fin (tcTables nBuf tb) → BufTy
  | .hbm, ⟨0, _⟩ => ⟨S16384x14336, .bf16⟩
  | .hbm, ⟨1, _⟩ => ⟨S2x8704x128, .f32⟩
  | .hbm, ⟨2, _⟩ => ⟨S2x8704x128, .bf16⟩
  | .hbm, ⟨3, _⟩ => ⟨S2x8704x256, .bf16⟩
  | .hbm, ⟨4, _⟩ => ⟨S16x128x256, .f32⟩
  | .hbm, ⟨5, _⟩ => ⟨S16x256x128, .f32⟩
  | .hbm, ⟨6, _⟩ => ⟨S16x128x256, .f32⟩
  | .hbm, ⟨7, _⟩ => ⟨S16x128x256, .bf16⟩
  | .hbm, ⟨8, _⟩ => ⟨S16x256x128, .bf16⟩
  | .hbm, ⟨9, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S1x128x128, .f32⟩
  | .local _ .vmem, ⟨5, _⟩ => ⟨S1x128x128, .f32⟩
  | .local _ .vmem, ⟨6, _⟩ => ⟨S1x8704x128, .bf16⟩
  | .local _ .vmem, ⟨7, _⟩ => ⟨S1x8704x256, .bf16⟩
  | .local _ .vmem, ⟨8, _⟩ => ⟨S16x128x256, .bf16⟩
  | .local _ .vmem, ⟨9, _⟩ => ⟨S16x256x128, .bf16⟩
  | .local _ .vmem, ⟨10, _⟩ => ⟨S16x128x256, .f32⟩
  | .local _ .vmem, ⟨11, _⟩ => ⟨S128x2048, .bf16⟩
  | .local _ .vmem, ⟨12, _⟩ => ⟨S128x2048, .bf16⟩
  | .local _ .vmem, ⟨13, _⟩ => ⟨S128x8704, .i32⟩
  | .local _ .vmem, ⟨14, _⟩ => ⟨S32x128x384, .i32⟩
  | .local _ .vmem, ⟨15, _⟩ => ⟨S128x384, .i32⟩
  | .local _ .vmem, ⟨16, _⟩ => ⟨S2048x128, .bf16⟩
  | .local _ .vmem, ⟨17, _⟩ => ⟨S2048x128, .f32⟩
  | .local _ .vmem, ⟨18, _⟩ => ⟨S2048x256, .bf16⟩
  | .local _ .vmem, ⟨19, _⟩ => ⟨S128x512, .f32⟩
  | .local _ .vmem, ⟨20, _⟩ => ⟨S2048x512, .f32⟩
  | .local _ .vmem, ⟨21, _⟩ => ⟨S2048x512, .f32⟩
  | .local _ .vmem, ⟨22, _⟩ => ⟨S2048x512, .bf16⟩
  | .local _ .vmem, ⟨23, _⟩ => ⟨S2048x128, .f32⟩
  | .local _ .vmem, ⟨24, _⟩ => ⟨S2048x128, .f32⟩
  | .local _ .vmem, ⟨25, _⟩ => ⟨S2048x128, .f32⟩
  | .local _ .vmem, ⟨26, _⟩ => ⟨S2048x256, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_scratch11 : Ref sig .tc := ⟨.vmem, 24, rfl⟩
abbrev cc0_scratch12 : Ref sig .tc := ⟨.vmem, 25, rfl⟩
abbrev cc0_scratch13 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [BitOps F]

abbrev grid0 : Pipeline.Grid := ⟨2, ![2, 64], ![false, false]⟩

def k0_mult1 : BitVec 32 :=
  let c0_i32_111 : BitVec 32 := 0#32
  let c0_i32_112 : BitVec 32 := 0#32
  let v266 : BitVec 1 := Scalar.cmpi .sgt c0_i32_111 c0_i32_112
  let v267 : BitVec 32 := Scalar.extui v266
  let c0_i32_113 : BitVec 32 := 0#32
  let v268 : BitVec 1 := Scalar.cmpi .slt c0_i32_111 c0_i32_113
  let v269 : BitVec 32 := Scalar.extui v268
  let v270 : BitVec 32 := Scalar.subi v267 v269
  let c8_i32 : BitVec 32 := 8#32
  let c0_i32_114 : BitVec 32 := 0#32
  let v271 : BitVec 1 := Scalar.cmpi .sgt c8_i32 c0_i32_114
  let v272 : BitVec 32 := Scalar.extui v271
  let c0_i32_115 : BitVec 32 := 0#32
  let v273 : BitVec 1 := Scalar.cmpi .slt c8_i32 c0_i32_115
  let v274 : BitVec 32 := Scalar.extui v273
  let v275 : BitVec 32 := Scalar.subi v272 v274
  let v276 : BitVec 1 := Scalar.cmpi .ne v270 v275
  let v277 : BitVec 32 := Scalar.remsi c0_i32_111 c8_i32
  let c0_i32_116 : BitVec 32 := 0#32
  let v278 : BitVec 1 := Scalar.cmpi .ne v277 c0_i32_116
  let v279 : BitVec 1 := Scalar.andi v276 v278
  let v265 : BitVec 32 := Scalar.divsi c0_i32_111 c8_i32
  let c1_i32_117 : BitVec 32 := 1#32
  let v280 : BitVec 32 := Scalar.subi v265 c1_i32_117
  let v281 : BitVec 32 := Scalar.select v279 v280 v265
  let c128_i32_126 : BitVec 32 := 128#32
  let v294 : BitVec 32 := Scalar.muli v281 c128_i32_126
  v294
def k0_off1 (c0_i32_125 : BitVec 32) : Fin 3 → Nat :=
  let c0_i32_118 : BitVec 32 := 0#32
  let c8_i32_119 : BitVec 32 := 8#32
  let c0_i32_120 : BitVec 32 := 0#32
  let v282 : BitVec 1 := Scalar.cmpi .eq c8_i32_119 c0_i32_120
  let c1_i32_121 : BitVec 32 := 1#32
  let v283 : BitVec 32 := Scalar.select v282 c1_i32_121 c8_i32_119
  let v284 : BitVec 32 := Scalar.remsi c0_i32_118 v283
  let c0_i32_123 : BitVec 32 := 0#32
  let v286 : BitVec 1 := Scalar.cmpi .slt v284 c0_i32_123
  let c0_i32_124 : BitVec 32 := 0#32
  let v287 : BitVec 1 := Scalar.cmpi .slt v283 c0_i32_124
  let v288 : BitVec 1 := Scalar.xori v286 v287
  let c0_i32_122 : BitVec 32 := 0#32
  let v285 : BitVec 1 := Scalar.cmpi .ne v284 c0_i32_122
  let v289 : BitVec 1 := Scalar.andi v288 v285
  let v290 : BitVec 32 := Scalar.addi v284 v283
  let v291 : BitVec 32 := Scalar.select v289 v290 v284
  let c4_i32 : BitVec 32 := 4#32
  let v292 : BitVec 32 := Scalar.muli v291 c4_i32
  let v293 : BitVec 32 := Scalar.addi v292 c0_i32_125
  let v296 : Index := Scalar.indexCast v293
  let c0_127 : Index := 0#32
  let c0_i32_111 : BitVec 32 := 0#32
  let c0_i32_112 : BitVec 32 := 0#32
  let v266 : BitVec 1 := Scalar.cmpi .sgt c0_i32_111 c0_i32_112
  let v267 : BitVec 32 := Scalar.extui v266
  let c0_i32_113 : BitVec 32 := 0#32
  let v268 : BitVec 1 := Scalar.cmpi .slt c0_i32_111 c0_i32_113
  let v269 : BitVec 32 := Scalar.extui v268
  let v270 : BitVec 32 := Scalar.subi v267 v269
  let c8_i32 : BitVec 32 := 8#32
  let c0_i32_114 : BitVec 32 := 0#32
  let v271 : BitVec 1 := Scalar.cmpi .sgt c8_i32 c0_i32_114
  let v272 : BitVec 32 := Scalar.extui v271
  let c0_i32_115 : BitVec 32 := 0#32
  let v273 : BitVec 1 := Scalar.cmpi .slt c8_i32 c0_i32_115
  let v274 : BitVec 32 := Scalar.extui v273
  let v275 : BitVec 32 := Scalar.subi v272 v274
  let v276 : BitVec 1 := Scalar.cmpi .ne v270 v275
  let v277 : BitVec 32 := Scalar.remsi c0_i32_111 c8_i32
  let c0_i32_116 : BitVec 32 := 0#32
  let v278 : BitVec 1 := Scalar.cmpi .ne v277 c0_i32_116
  let v279 : BitVec 1 := Scalar.andi v276 v278
  let v265 : BitVec 32 := Scalar.divsi c0_i32_111 c8_i32
  let c1_i32_117 : BitVec 32 := 1#32
  let v280 : BitVec 32 := Scalar.subi v265 c1_i32_117
  let v281 : BitVec 32 := Scalar.select v279 v280 v265
  let c128_i32_126 : BitVec 32 := 128#32
  let v294 : BitVec 32 := Scalar.muli v281 c128_i32_126
  let v295 : BitVec 32 := v294
  let v297 : Index := Scalar.indexCast v295
  ![v296.toNat, 0, v297.toNat]
def k0_mult2 : BitVec 32 :=
  let c0_i32_111 : BitVec 32 := 0#32
  let c0_i32_112 : BitVec 32 := 0#32
  let v266 : BitVec 1 := Scalar.cmpi .sgt c0_i32_111 c0_i32_112
  let v267 : BitVec 32 := Scalar.extui v266
  let c0_i32_113 : BitVec 32 := 0#32
  let v268 : BitVec 1 := Scalar.cmpi .slt c0_i32_111 c0_i32_113
  let v269 : BitVec 32 := Scalar.extui v268
  let v270 : BitVec 32 := Scalar.subi v267 v269
  let c8_i32 : BitVec 32 := 8#32
  let c0_i32_114 : BitVec 32 := 0#32
  let v271 : BitVec 1 := Scalar.cmpi .sgt c8_i32 c0_i32_114
  let v272 : BitVec 32 := Scalar.extui v271
  let c0_i32_115 : BitVec 32 := 0#32
  let v273 : BitVec 1 := Scalar.cmpi .slt c8_i32 c0_i32_115
  let v274 : BitVec 32 := Scalar.extui v273
  let v275 : BitVec 32 := Scalar.subi v272 v274
  let v276 : BitVec 1 := Scalar.cmpi .ne v270 v275
  let v277 : BitVec 32 := Scalar.remsi c0_i32_111 c8_i32
  let c0_i32_116 : BitVec 32 := 0#32
  let v278 : BitVec 1 := Scalar.cmpi .ne v277 c0_i32_116
  let v279 : BitVec 1 := Scalar.andi v276 v278
  let v265 : BitVec 32 := Scalar.divsi c0_i32_111 c8_i32
  let c1_i32_117 : BitVec 32 := 1#32
  let v280 : BitVec 32 := Scalar.subi v265 c1_i32_117
  let v281 : BitVec 32 := Scalar.select v279 v280 v265
  let c128_i32_129 : BitVec 32 := 128#32
  let v302 : BitVec 32 := Scalar.muli v281 c128_i32_129
  v302
def k0_mult3 : BitVec 32 :=
  let c0_i32_111 : BitVec 32 := 0#32
  let c0_i32_112 : BitVec 32 := 0#32
  let v266 : BitVec 1 := Scalar.cmpi .sgt c0_i32_111 c0_i32_112
  let v267 : BitVec 32 := Scalar.extui v266
  let c0_i32_113 : BitVec 32 := 0#32
  let v268 : BitVec 1 := Scalar.cmpi .slt c0_i32_111 c0_i32_113
  let v269 : BitVec 32 := Scalar.extui v268
  let v270 : BitVec 32 := Scalar.subi v267 v269
  let c8_i32 : BitVec 32 := 8#32
  let c0_i32_114 : BitVec 32 := 0#32
  let v271 : BitVec 1 := Scalar.cmpi .sgt c8_i32 c0_i32_114
  let v272 : BitVec 32 := Scalar.extui v271
  let c0_i32_115 : BitVec 32 := 0#32
  let v273 : BitVec 1 := Scalar.cmpi .slt c8_i32 c0_i32_115
  let v274 : BitVec 32 := Scalar.extui v273
  let v275 : BitVec 32 := Scalar.subi v272 v274
  let v276 : BitVec 1 := Scalar.cmpi .ne v270 v275
  let v277 : BitVec 32 := Scalar.remsi c0_i32_111 c8_i32
  let c0_i32_116 : BitVec 32 := 0#32
  let v278 : BitVec 1 := Scalar.cmpi .ne v277 c0_i32_116
  let v279 : BitVec 1 := Scalar.andi v276 v278
  let v265 : BitVec 32 := Scalar.divsi c0_i32_111 c8_i32
  let c1_i32_117 : BitVec 32 := 1#32
  let v280 : BitVec 32 := Scalar.subi v265 c1_i32_117
  let v281 : BitVec 32 := Scalar.select v279 v280 v265
  let c128_i32_132 : BitVec 32 := 128#32
  let v310 : BitVec 32 := Scalar.muli v281 c128_i32_132
  v310
def k0_mult4 : BitVec 32 :=
  let c0_i32_111 : BitVec 32 := 0#32
  let c0_i32_112 : BitVec 32 := 0#32
  let v266 : BitVec 1 := Scalar.cmpi .sgt c0_i32_111 c0_i32_112
  let v267 : BitVec 32 := Scalar.extui v266
  let c0_i32_113 : BitVec 32 := 0#32
  let v268 : BitVec 1 := Scalar.cmpi .slt c0_i32_111 c0_i32_113
  let v269 : BitVec 32 := Scalar.extui v268
  let v270 : BitVec 32 := Scalar.subi v267 v269
  let c8_i32 : BitVec 32 := 8#32
  let c0_i32_114 : BitVec 32 := 0#32
  let v271 : BitVec 1 := Scalar.cmpi .sgt c8_i32 c0_i32_114
  let v272 : BitVec 32 := Scalar.extui v271
  let c0_i32_115 : BitVec 32 := 0#32
  let v273 : BitVec 1 := Scalar.cmpi .slt c8_i32 c0_i32_115
  let v274 : BitVec 32 := Scalar.extui v273
  let v275 : BitVec 32 := Scalar.subi v272 v274
  let v276 : BitVec 1 := Scalar.cmpi .ne v270 v275
  let v277 : BitVec 32 := Scalar.remsi c0_i32_111 c8_i32
  let c0_i32_116 : BitVec 32 := 0#32
  let v278 : BitVec 1 := Scalar.cmpi .ne v277 c0_i32_116
  let v279 : BitVec 1 := Scalar.andi v276 v278
  let v265 : BitVec 32 := Scalar.divsi c0_i32_111 c8_i32
  let c1_i32_117 : BitVec 32 := 1#32
  let v280 : BitVec 32 := Scalar.subi v265 c1_i32_117
  let v281 : BitVec 32 := Scalar.select v279 v280 v265
  let c128_i32_134 : BitVec 32 := 128#32
  let v318 : BitVec 32 := Scalar.muli v281 c128_i32_134
  v318
def k0_cond1 (i : grid0.Coords) : BitVec 1 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let c1_i32_143 : BitVec 32 := 1#32
  let v336 : BitVec 1 := Scalar.cmpi .eq v335 c1_i32_143
  let v337 : BitVec 32 := Scalar.extui v336
  let c0_i32_144 : BitVec 32 := 0#32
  let v338 : BitVec 1 := Scalar.cmpi .ne v337 c0_i32_144
  v338

def k0_mult5 : BitVec 32 :=
  let c512_i32_1784 : BitVec 32 := 512#32
  c512_i32_1784
def k0_mult6 : BitVec 32 :=
  let c0_i32_1888 : BitVec 32 := 0#32
  c0_i32_1888
def k0_mult7 : BitVec 32 :=
  let c0_i32_1891 : BitVec 32 := 0#32
  c0_i32_1891
def k0_mult8 : BitVec 32 :=
  let c0_i32_1894 : BitVec 32 := 0#32
  c0_i32_1894
def k0_mult9 : BitVec 32 :=
  let c0_i32_1897 : BitVec 32 := 0#32
  c0_i32_1897
@[reducible] def k0_t1_loop (i : grid0.Coords) : Scf.Loop 32 :=
  let c0_i32_154 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_156 : BitVec 32 := 1#32
  ⟨c0_i32_154, v361, c1_i32_156⟩
def k0_mult10 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c512_i32_1786 : BitVec 32 := 512#32
  let v3932 : BitVec 32 := Scalar.muli v3931 c512_i32_1786
  v3932
def k0_off2 (i : grid0.Coords) (k0_t1 : Fin (k0_t1_loop i).trips) : Fin 3 → Nat :=
  let c0_1787 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c512_i32_1786 : BitVec 32 := 512#32
  let v3932 : BitVec 32 := Scalar.muli v3931 c512_i32_1786
  let v3933 : BitVec 32 := v3932
  let v3934 : Index := Scalar.indexCast v3933
  let c0_1788 : Index := 0#32
  ![0, v3934.toNat, 0]
def k0_off3 (i : grid0.Coords) (k0_t1 : Fin (k0_t1_loop i).trips) : Fin 2 → Nat :=
  let c0_1877 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c512_i32_1786 : BitVec 32 := 512#32
  let v3932 : BitVec 32 := Scalar.muli v3931 c512_i32_1786
  let v3933 : BitVec 32 := v3932
  let v4066 : Index := Scalar.indexCast v3933
  ![0, v4066.toNat]
def k0_mult11 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1905 : BitVec 32 := 128#32
  let v4139 : BitVec 32 := Scalar.muli v4126 c128_i32_1905
  v4139
def k0_off4 (i : grid0.Coords) (k0_t1 : Fin (k0_t1_loop i).trips) (c0_i32_1904 : BitVec 32) : Fin 3 → Nat :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c8_i32_1897 : BitVec 32 := 8#32
  let c0_i32_1898 : BitVec 32 := 0#32
  let v4127 : BitVec 1 := Scalar.cmpi .eq c8_i32_1897 c0_i32_1898
  let c1_i32_1899 : BitVec 32 := 1#32
  let v4128 : BitVec 32 := Scalar.select v4127 c1_i32_1899 c8_i32_1897
  let v4129 : BitVec 32 := Scalar.remsi v3931 v4128
  let c0_i32_1901 : BitVec 32 := 0#32
  let v4131 : BitVec 1 := Scalar.cmpi .slt v4129 c0_i32_1901
  let c0_i32_1902 : BitVec 32 := 0#32
  let v4132 : BitVec 1 := Scalar.cmpi .slt v4128 c0_i32_1902
  let v4133 : BitVec 1 := Scalar.xori v4131 v4132
  let c0_i32_1900 : BitVec 32 := 0#32
  let v4130 : BitVec 1 := Scalar.cmpi .ne v4129 c0_i32_1900
  let v4134 : BitVec 1 := Scalar.andi v4133 v4130
  let v4135 : BitVec 32 := Scalar.addi v4129 v4128
  let v4136 : BitVec 32 := Scalar.select v4134 v4135 v4129
  let c4_i32_1903 : BitVec 32 := 4#32
  let v4137 : BitVec 32 := Scalar.muli v4136 c4_i32_1903
  let v4138 : BitVec 32 := Scalar.addi v4137 c0_i32_1904
  let v4141 : Index := Scalar.indexCast v4138
  let c0_1906 : Index := 0#32
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1905 : BitVec 32 := 128#32
  let v4139 : BitVec 32 := Scalar.muli v4126 c128_i32_1905
  let v4140 : BitVec 32 := v4139
  let v4142 : Index := Scalar.indexCast v4140
  ![v4141.toNat, 0, v4142.toNat]
def k0_mult12 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1908 : BitVec 32 := 128#32
  let v4147 : BitVec 32 := Scalar.muli v4126 c128_i32_1908
  v4147
def k0_mult13 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1911 : BitVec 32 := 128#32
  let v4155 : BitVec 32 := Scalar.muli v4126 c128_i32_1911
  v4155
def k0_mult14 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1914 : BitVec 32 := 128#32
  let v4163 : BitVec 32 := Scalar.muli v4126 c128_i32_1914
  v4163
def k0_mult15 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c512_i32_1917 : BitVec 32 := 512#32
  let v4171 : BitVec 32 := Scalar.muli v4170 c512_i32_1917
  v4171
def k0_off5 (i : grid0.Coords) (k0_t1 : Fin (k0_t1_loop i).trips) : Fin 3 → Nat :=
  let c0_1918 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c512_i32_1917 : BitVec 32 := 512#32
  let v4171 : BitVec 32 := Scalar.muli v4170 c512_i32_1917
  let v4172 : BitVec 32 := v4171
  let v4173 : Index := Scalar.indexCast v4172
  let c0_1919 : Index := 0#32
  ![0, v4173.toNat, 0]
def k0_off6 (i : grid0.Coords) (k0_t1 : Fin (k0_t1_loop i).trips) : Fin 2 → Nat :=
  let c0_2009 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c512_i32_1917 : BitVec 32 := 512#32
  let v4171 : BitVec 32 := Scalar.muli v4170 c512_i32_1917
  let v4172 : BitVec 32 := v4171
  let v4305 : Index := Scalar.indexCast v4172
  ![0, v4305.toNat]
def k0_mult16 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2037 : BitVec 32 := 128#32
  let v4378 : BitVec 32 := Scalar.muli v4365 c128_i32_2037
  v4378
def k0_off7 (i : grid0.Coords) (k0_t1 : Fin (k0_t1_loop i).trips) (c0_i32_2036 : BitVec 32) : Fin 3 → Nat :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c8_i32_2029 : BitVec 32 := 8#32
  let c0_i32_2030 : BitVec 32 := 0#32
  let v4366 : BitVec 1 := Scalar.cmpi .eq c8_i32_2029 c0_i32_2030
  let c1_i32_2031 : BitVec 32 := 1#32
  let v4367 : BitVec 32 := Scalar.select v4366 c1_i32_2031 c8_i32_2029
  let v4368 : BitVec 32 := Scalar.remsi v4170 v4367
  let c0_i32_2033 : BitVec 32 := 0#32
  let v4370 : BitVec 1 := Scalar.cmpi .slt v4368 c0_i32_2033
  let c0_i32_2034 : BitVec 32 := 0#32
  let v4371 : BitVec 1 := Scalar.cmpi .slt v4367 c0_i32_2034
  let v4372 : BitVec 1 := Scalar.xori v4370 v4371
  let c0_i32_2032 : BitVec 32 := 0#32
  let v4369 : BitVec 1 := Scalar.cmpi .ne v4368 c0_i32_2032
  let v4373 : BitVec 1 := Scalar.andi v4372 v4369
  let v4374 : BitVec 32 := Scalar.addi v4368 v4367
  let v4375 : BitVec 32 := Scalar.select v4373 v4374 v4368
  let c4_i32_2035 : BitVec 32 := 4#32
  let v4376 : BitVec 32 := Scalar.muli v4375 c4_i32_2035
  let v4377 : BitVec 32 := Scalar.addi v4376 c0_i32_2036
  let v4380 : Index := Scalar.indexCast v4377
  let c0_2038 : Index := 0#32
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2037 : BitVec 32 := 128#32
  let v4378 : BitVec 32 := Scalar.muli v4365 c128_i32_2037
  let v4379 : BitVec 32 := v4378
  let v4381 : Index := Scalar.indexCast v4379
  ![v4380.toNat, 0, v4381.toNat]
def k0_mult17 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2040 : BitVec 32 := 128#32
  let v4386 : BitVec 32 := Scalar.muli v4365 c128_i32_2040
  v4386
def k0_mult18 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2043 : BitVec 32 := 128#32
  let v4394 : BitVec 32 := Scalar.muli v4365 c128_i32_2043
  v4394
def k0_mult19 (i : grid0.Coords) (k0_t1 : Fin (k0_t1_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_156 : BitVec 32 := 1#32
  let arg25 : BitVec 32 := Scf.iv c0_i32_154 c1_i32_156 k0_t1
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2046 : BitVec 32 := 128#32
  let v4402 : BitVec 32 := Scalar.muli v4365 c128_i32_2046
  v4402
@[reducible] def k0_t2_loop (i : grid0.Coords) : Scf.Loop 32 :=
  let c0_i32_154 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let v358 : BitVec 32 := Scalar.addi c0_i32_154 v357
  let c1_i32_157 : BitVec 32 := 1#32
  ⟨v361, v358, c1_i32_157⟩
def k0_mult20 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c512_i32_1786 : BitVec 32 := 512#32
  let v3932 : BitVec 32 := Scalar.muli v3931 c512_i32_1786
  v3932
def k0_off8 (i : grid0.Coords) (k0_t2 : Fin (k0_t2_loop i).trips) : Fin 3 → Nat :=
  let c0_1787 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c512_i32_1786 : BitVec 32 := 512#32
  let v3932 : BitVec 32 := Scalar.muli v3931 c512_i32_1786
  let v3933 : BitVec 32 := v3932
  let v3934 : Index := Scalar.indexCast v3933
  let c0_1788 : Index := 0#32
  ![0, v3934.toNat, 0]
def k0_off9 (i : grid0.Coords) (k0_t2 : Fin (k0_t2_loop i).trips) : Fin 2 → Nat :=
  let c0_1877 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c512_i32_1786 : BitVec 32 := 512#32
  let v3932 : BitVec 32 := Scalar.muli v3931 c512_i32_1786
  let v3933 : BitVec 32 := v3932
  let v4066 : Index := Scalar.indexCast v3933
  ![0, v4066.toNat]
def k0_mult21 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1905 : BitVec 32 := 128#32
  let v4139 : BitVec 32 := Scalar.muli v4126 c128_i32_1905
  v4139
def k0_off10 (i : grid0.Coords) (k0_t2 : Fin (k0_t2_loop i).trips) (c0_i32_1904 : BitVec 32) : Fin 3 → Nat :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c8_i32_1897 : BitVec 32 := 8#32
  let c0_i32_1898 : BitVec 32 := 0#32
  let v4127 : BitVec 1 := Scalar.cmpi .eq c8_i32_1897 c0_i32_1898
  let c1_i32_1899 : BitVec 32 := 1#32
  let v4128 : BitVec 32 := Scalar.select v4127 c1_i32_1899 c8_i32_1897
  let v4129 : BitVec 32 := Scalar.remsi v3931 v4128
  let c0_i32_1901 : BitVec 32 := 0#32
  let v4131 : BitVec 1 := Scalar.cmpi .slt v4129 c0_i32_1901
  let c0_i32_1902 : BitVec 32 := 0#32
  let v4132 : BitVec 1 := Scalar.cmpi .slt v4128 c0_i32_1902
  let v4133 : BitVec 1 := Scalar.xori v4131 v4132
  let c0_i32_1900 : BitVec 32 := 0#32
  let v4130 : BitVec 1 := Scalar.cmpi .ne v4129 c0_i32_1900
  let v4134 : BitVec 1 := Scalar.andi v4133 v4130
  let v4135 : BitVec 32 := Scalar.addi v4129 v4128
  let v4136 : BitVec 32 := Scalar.select v4134 v4135 v4129
  let c4_i32_1903 : BitVec 32 := 4#32
  let v4137 : BitVec 32 := Scalar.muli v4136 c4_i32_1903
  let v4138 : BitVec 32 := Scalar.addi v4137 c0_i32_1904
  let v4141 : Index := Scalar.indexCast v4138
  let c0_1906 : Index := 0#32
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1905 : BitVec 32 := 128#32
  let v4139 : BitVec 32 := Scalar.muli v4126 c128_i32_1905
  let v4140 : BitVec 32 := v4139
  let v4142 : Index := Scalar.indexCast v4140
  ![v4141.toNat, 0, v4142.toNat]
def k0_mult22 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1908 : BitVec 32 := 128#32
  let v4147 : BitVec 32 := Scalar.muli v4126 c128_i32_1908
  v4147
def k0_mult23 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1911 : BitVec 32 := 128#32
  let v4155 : BitVec 32 := Scalar.muli v4126 c128_i32_1911
  v4155
def k0_mult24 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c0_i32_1891 : BitVec 32 := 0#32
  let v4111 : BitVec 1 := Scalar.cmpi .sgt v3931 c0_i32_1891
  let v4112 : BitVec 32 := Scalar.extui v4111
  let c0_i32_1892 : BitVec 32 := 0#32
  let v4113 : BitVec 1 := Scalar.cmpi .slt v3931 c0_i32_1892
  let v4114 : BitVec 32 := Scalar.extui v4113
  let v4115 : BitVec 32 := Scalar.subi v4112 v4114
  let c8_i32_1890 : BitVec 32 := 8#32
  let c0_i32_1893 : BitVec 32 := 0#32
  let v4116 : BitVec 1 := Scalar.cmpi .sgt c8_i32_1890 c0_i32_1893
  let v4117 : BitVec 32 := Scalar.extui v4116
  let c0_i32_1894 : BitVec 32 := 0#32
  let v4118 : BitVec 1 := Scalar.cmpi .slt c8_i32_1890 c0_i32_1894
  let v4119 : BitVec 32 := Scalar.extui v4118
  let v4120 : BitVec 32 := Scalar.subi v4117 v4119
  let v4121 : BitVec 1 := Scalar.cmpi .ne v4115 v4120
  let v4122 : BitVec 32 := Scalar.remsi v3931 c8_i32_1890
  let c0_i32_1895 : BitVec 32 := 0#32
  let v4123 : BitVec 1 := Scalar.cmpi .ne v4122 c0_i32_1895
  let v4124 : BitVec 1 := Scalar.andi v4121 v4123
  let v4110 : BitVec 32 := Scalar.divsi v3931 c8_i32_1890
  let c1_i32_1896 : BitVec 32 := 1#32
  let v4125 : BitVec 32 := Scalar.subi v4110 c1_i32_1896
  let v4126 : BitVec 32 := Scalar.select v4124 v4125 v4110
  let c128_i32_1914 : BitVec 32 := 128#32
  let v4163 : BitVec 32 := Scalar.muli v4126 c128_i32_1914
  v4163
def k0_mult25 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c512_i32_1917 : BitVec 32 := 512#32
  let v4171 : BitVec 32 := Scalar.muli v4170 c512_i32_1917
  v4171
def k0_off11 (i : grid0.Coords) (k0_t2 : Fin (k0_t2_loop i).trips) : Fin 3 → Nat :=
  let c0_1918 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c512_i32_1917 : BitVec 32 := 512#32
  let v4171 : BitVec 32 := Scalar.muli v4170 c512_i32_1917
  let v4172 : BitVec 32 := v4171
  let v4173 : Index := Scalar.indexCast v4172
  let c0_1919 : Index := 0#32
  ![0, v4173.toNat, 0]
def k0_off12 (i : grid0.Coords) (k0_t2 : Fin (k0_t2_loop i).trips) : Fin 2 → Nat :=
  let c0_2009 : Index := 0#32
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c512_i32_1917 : BitVec 32 := 512#32
  let v4171 : BitVec 32 := Scalar.muli v4170 c512_i32_1917
  let v4172 : BitVec 32 := v4171
  let v4305 : Index := Scalar.indexCast v4172
  ![0, v4305.toNat]
def k0_mult26 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2037 : BitVec 32 := 128#32
  let v4378 : BitVec 32 := Scalar.muli v4365 c128_i32_2037
  v4378
def k0_off13 (i : grid0.Coords) (k0_t2 : Fin (k0_t2_loop i).trips) (c0_i32_2036 : BitVec 32) : Fin 3 → Nat :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c8_i32_2029 : BitVec 32 := 8#32
  let c0_i32_2030 : BitVec 32 := 0#32
  let v4366 : BitVec 1 := Scalar.cmpi .eq c8_i32_2029 c0_i32_2030
  let c1_i32_2031 : BitVec 32 := 1#32
  let v4367 : BitVec 32 := Scalar.select v4366 c1_i32_2031 c8_i32_2029
  let v4368 : BitVec 32 := Scalar.remsi v4170 v4367
  let c0_i32_2033 : BitVec 32 := 0#32
  let v4370 : BitVec 1 := Scalar.cmpi .slt v4368 c0_i32_2033
  let c0_i32_2034 : BitVec 32 := 0#32
  let v4371 : BitVec 1 := Scalar.cmpi .slt v4367 c0_i32_2034
  let v4372 : BitVec 1 := Scalar.xori v4370 v4371
  let c0_i32_2032 : BitVec 32 := 0#32
  let v4369 : BitVec 1 := Scalar.cmpi .ne v4368 c0_i32_2032
  let v4373 : BitVec 1 := Scalar.andi v4372 v4369
  let v4374 : BitVec 32 := Scalar.addi v4368 v4367
  let v4375 : BitVec 32 := Scalar.select v4373 v4374 v4368
  let c4_i32_2035 : BitVec 32 := 4#32
  let v4376 : BitVec 32 := Scalar.muli v4375 c4_i32_2035
  let v4377 : BitVec 32 := Scalar.addi v4376 c0_i32_2036
  let v4380 : Index := Scalar.indexCast v4377
  let c0_2038 : Index := 0#32
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2037 : BitVec 32 := 128#32
  let v4378 : BitVec 32 := Scalar.muli v4365 c128_i32_2037
  let v4379 : BitVec 32 := v4378
  let v4381 : Index := Scalar.indexCast v4379
  ![v4380.toNat, 0, v4381.toNat]
def k0_mult27 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2040 : BitVec 32 := 128#32
  let v4386 : BitVec 32 := Scalar.muli v4365 c128_i32_2040
  v4386
def k0_mult28 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2043 : BitVec 32 := 128#32
  let v4394 : BitVec 32 := Scalar.muli v4365 c128_i32_2043
  v4394
def k0_mult29 (i : grid0.Coords) (k0_t2 : Fin (k0_t2_loop i).trips) : BitVec 32 :=
  let c1_i32_1784 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_136 : BitVec 32 := 1#32
  let v325 : BitVec 32 := Scalar.subi v220 c1_i32_136
  let c2_i32_137 : BitVec 32 := 2#32
  let c0_i32_138 : BitVec 32 := 0#32
  let v326 : BitVec 1 := Scalar.cmpi .eq c2_i32_137 c0_i32_138
  let c1_i32_139 : BitVec 32 := 1#32
  let v327 : BitVec 32 := Scalar.select v326 c1_i32_139 c2_i32_137
  let v328 : BitVec 32 := Scalar.remsi v325 v327
  let c0_i32_141 : BitVec 32 := 0#32
  let v330 : BitVec 1 := Scalar.cmpi .slt v328 c0_i32_141
  let c0_i32_142 : BitVec 32 := 0#32
  let v331 : BitVec 1 := Scalar.cmpi .slt v327 c0_i32_142
  let v332 : BitVec 1 := Scalar.xori v330 v331
  let c0_i32_140 : BitVec 32 := 0#32
  let v329 : BitVec 1 := Scalar.cmpi .ne v328 c0_i32_140
  let v333 : BitVec 1 := Scalar.andi v332 v329
  let v334 : BitVec 32 := Scalar.addi v328 v327
  let v335 : BitVec 32 := Scalar.select v333 v334 v328
  let v3929 : BitVec 32 := Scalar.addi c1_i32_1784 v335
  let c2_i32_1785 : BitVec 32 := 2#32
  let c0_i32_154 : BitVec 32 := 0#32
  let c1_i32_145 : BitVec 32 := 1#32
  let v339 : BitVec 32 := Scalar.subi v220 c1_i32_145
  let c0_i32_147 : BitVec 32 := 0#32
  let v341 : BitVec 1 := Scalar.cmpi .sgt v339 c0_i32_147
  let v342 : BitVec 32 := Scalar.extui v341
  let c0_i32_148 : BitVec 32 := 0#32
  let v343 : BitVec 1 := Scalar.cmpi .slt v339 c0_i32_148
  let v344 : BitVec 32 := Scalar.extui v343
  let v345 : BitVec 32 := Scalar.subi v342 v344
  let c2_i32_146 : BitVec 32 := 2#32
  let c0_i32_149 : BitVec 32 := 0#32
  let v346 : BitVec 1 := Scalar.cmpi .sgt c2_i32_146 c0_i32_149
  let v347 : BitVec 32 := Scalar.extui v346
  let c0_i32_150 : BitVec 32 := 0#32
  let v348 : BitVec 1 := Scalar.cmpi .slt c2_i32_146 c0_i32_150
  let v349 : BitVec 32 := Scalar.extui v348
  let v350 : BitVec 32 := Scalar.subi v347 v349
  let v351 : BitVec 1 := Scalar.cmpi .ne v345 v350
  let v352 : BitVec 32 := Scalar.remsi v339 c2_i32_146
  let c0_i32_151 : BitVec 32 := 0#32
  let v353 : BitVec 1 := Scalar.cmpi .ne v352 c0_i32_151
  let v354 : BitVec 1 := Scalar.andi v351 v353
  let v340 : BitVec 32 := Scalar.divsi v339 c2_i32_146
  let c1_i32_152 : BitVec 32 := 1#32
  let v355 : BitVec 32 := Scalar.subi v340 c1_i32_152
  let v356 : BitVec 32 := Scalar.select v354 v355 v340
  let v357 : BitVec 32 := Scalar.subi v356 c0_i32_154
  let c1_i32_155 : BitVec 32 := 1#32
  let v359 : BitVec 32 := Scalar.divsi v357 c1_i32_155
  let v360 : BitVec 32 := Scalar.muli v359 c1_i32_155
  let v361 : BitVec 32 := Scalar.addi c0_i32_154 v360
  let c1_i32_157 : BitVec 32 := 1#32
  let arg25 : BitVec 32 := Scf.iv v361 c1_i32_157 k0_t2
  let v3930 : BitVec 32 := Scalar.muli c2_i32_1785 arg25
  let v3931 : BitVec 32 := Scalar.addi v3929 v3930
  let c1_i32_1916 : BitVec 32 := 1#32
  let v4170 : BitVec 32 := Scalar.addi v3931 c1_i32_1916
  let c0_i32_2023 : BitVec 32 := 0#32
  let v4350 : BitVec 1 := Scalar.cmpi .sgt v4170 c0_i32_2023
  let v4351 : BitVec 32 := Scalar.extui v4350
  let c0_i32_2024 : BitVec 32 := 0#32
  let v4352 : BitVec 1 := Scalar.cmpi .slt v4170 c0_i32_2024
  let v4353 : BitVec 32 := Scalar.extui v4352
  let v4354 : BitVec 32 := Scalar.subi v4351 v4353
  let c8_i32_2022 : BitVec 32 := 8#32
  let c0_i32_2025 : BitVec 32 := 0#32
  let v4355 : BitVec 1 := Scalar.cmpi .sgt c8_i32_2022 c0_i32_2025
  let v4356 : BitVec 32 := Scalar.extui v4355
  let c0_i32_2026 : BitVec 32 := 0#32
  let v4357 : BitVec 1 := Scalar.cmpi .slt c8_i32_2022 c0_i32_2026
  let v4358 : BitVec 32 := Scalar.extui v4357
  let v4359 : BitVec 32 := Scalar.subi v4356 v4358
  let v4360 : BitVec 1 := Scalar.cmpi .ne v4354 v4359
  let v4361 : BitVec 32 := Scalar.remsi v4170 c8_i32_2022
  let c0_i32_2027 : BitVec 32 := 0#32
  let v4362 : BitVec 1 := Scalar.cmpi .ne v4361 c0_i32_2027
  let v4363 : BitVec 1 := Scalar.andi v4360 v4362
  let v4349 : BitVec 32 := Scalar.divsi v4170 c8_i32_2022
  let c1_i32_2028 : BitVec 32 := 1#32
  let v4364 : BitVec 32 := Scalar.subi v4349 c1_i32_2028
  let v4365 : BitVec 32 := Scalar.select v4363 v4364 v4349
  let c128_i32_2046 : BitVec 32 := 128#32
  let v4402 : BitVec 32 := Scalar.muli v4365 c128_i32_2046
  v4402
@[reducible] def k0_t3_loop (i : grid0.Coords) : Scf.Loop 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let c1_i32_170 : BitVec 32 := 1#32
  ⟨v220, v386, c1_i32_170⟩
def k0_mult30 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_170 : BitVec 32 := 1#32
  let arg25 : BitVec 32 := Scf.iv v220 c1_i32_170 k0_t3
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1811 : BitVec 32 := 128#32
  let v3998 : BitVec 32 := Scalar.muli v3985 c128_i32_1811
  v3998
def k0_off14 (i : grid0.Coords) (k0_t3 : Fin (k0_t3_loop i).trips) (c0_i32_1810 : BitVec 32) : Fin 3 → Nat :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_170 : BitVec 32 := 1#32
  let arg25 : BitVec 32 := Scf.iv v220 c1_i32_170 k0_t3
  let c8_i32_1803 : BitVec 32 := 8#32
  let c0_i32_1804 : BitVec 32 := 0#32
  let v3986 : BitVec 1 := Scalar.cmpi .eq c8_i32_1803 c0_i32_1804
  let c1_i32_1805 : BitVec 32 := 1#32
  let v3987 : BitVec 32 := Scalar.select v3986 c1_i32_1805 c8_i32_1803
  let v3988 : BitVec 32 := Scalar.remsi arg25 v3987
  let c0_i32_1807 : BitVec 32 := 0#32
  let v3990 : BitVec 1 := Scalar.cmpi .slt v3988 c0_i32_1807
  let c0_i32_1808 : BitVec 32 := 0#32
  let v3991 : BitVec 1 := Scalar.cmpi .slt v3987 c0_i32_1808
  let v3992 : BitVec 1 := Scalar.xori v3990 v3991
  let c0_i32_1806 : BitVec 32 := 0#32
  let v3989 : BitVec 1 := Scalar.cmpi .ne v3988 c0_i32_1806
  let v3993 : BitVec 1 := Scalar.andi v3992 v3989
  let v3994 : BitVec 32 := Scalar.addi v3988 v3987
  let v3995 : BitVec 32 := Scalar.select v3993 v3994 v3988
  let c4_i32_1809 : BitVec 32 := 4#32
  let v3996 : BitVec 32 := Scalar.muli v3995 c4_i32_1809
  let v3997 : BitVec 32 := Scalar.addi v3996 c0_i32_1810
  let v4000 : Index := Scalar.indexCast v3997
  let c0_1812 : Index := 0#32
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1811 : BitVec 32 := 128#32
  let v3998 : BitVec 32 := Scalar.muli v3985 c128_i32_1811
  let v3999 : BitVec 32 := v3998
  let v4001 : Index := Scalar.indexCast v3999
  ![v4000.toNat, 0, v4001.toNat]
def k0_mult31 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_170 : BitVec 32 := 1#32
  let arg25 : BitVec 32 := Scf.iv v220 c1_i32_170 k0_t3
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1814 : BitVec 32 := 128#32
  let v4006 : BitVec 32 := Scalar.muli v3985 c128_i32_1814
  v4006
def k0_mult32 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_170 : BitVec 32 := 1#32
  let arg25 : BitVec 32 := Scf.iv v220 c1_i32_170 k0_t3
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1817 : BitVec 32 := 128#32
  let v4014 : BitVec 32 := Scalar.muli v3985 c128_i32_1817
  v4014
def k0_mult33 (i : grid0.Coords) (k0_t3 : Fin (k0_t3_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c1_i32_170 : BitVec 32 := 1#32
  let arg25 : BitVec 32 := Scf.iv v220 c1_i32_170 k0_t3
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1820 : BitVec 32 := 128#32
  let v4022 : BitVec 32 := Scalar.muli v3985 c128_i32_1820
  v4022
@[reducible] def k0_t4_loop (i : grid0.Coords) : Scf.Loop 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let v383 : BitVec 32 := Scalar.addi v220 v382
  let c1_i32_171 : BitVec 32 := 1#32
  ⟨v386, v383, c1_i32_171⟩
def k0_mult34 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let c1_i32_171 : BitVec 32 := 1#32
  let arg25 : BitVec 32 := Scf.iv v386 c1_i32_171 k0_t4
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1811 : BitVec 32 := 128#32
  let v3998 : BitVec 32 := Scalar.muli v3985 c128_i32_1811
  v3998
def k0_off15 (i : grid0.Coords) (k0_t4 : Fin (k0_t4_loop i).trips) (c0_i32_1810 : BitVec 32) : Fin 3 → Nat :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let c1_i32_171 : BitVec 32 := 1#32
  let arg25 : BitVec 32 := Scf.iv v386 c1_i32_171 k0_t4
  let c8_i32_1803 : BitVec 32 := 8#32
  let c0_i32_1804 : BitVec 32 := 0#32
  let v3986 : BitVec 1 := Scalar.cmpi .eq c8_i32_1803 c0_i32_1804
  let c1_i32_1805 : BitVec 32 := 1#32
  let v3987 : BitVec 32 := Scalar.select v3986 c1_i32_1805 c8_i32_1803
  let v3988 : BitVec 32 := Scalar.remsi arg25 v3987
  let c0_i32_1807 : BitVec 32 := 0#32
  let v3990 : BitVec 1 := Scalar.cmpi .slt v3988 c0_i32_1807
  let c0_i32_1808 : BitVec 32 := 0#32
  let v3991 : BitVec 1 := Scalar.cmpi .slt v3987 c0_i32_1808
  let v3992 : BitVec 1 := Scalar.xori v3990 v3991
  let c0_i32_1806 : BitVec 32 := 0#32
  let v3989 : BitVec 1 := Scalar.cmpi .ne v3988 c0_i32_1806
  let v3993 : BitVec 1 := Scalar.andi v3992 v3989
  let v3994 : BitVec 32 := Scalar.addi v3988 v3987
  let v3995 : BitVec 32 := Scalar.select v3993 v3994 v3988
  let c4_i32_1809 : BitVec 32 := 4#32
  let v3996 : BitVec 32 := Scalar.muli v3995 c4_i32_1809
  let v3997 : BitVec 32 := Scalar.addi v3996 c0_i32_1810
  let v4000 : Index := Scalar.indexCast v3997
  let c0_1812 : Index := 0#32
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1811 : BitVec 32 := 128#32
  let v3998 : BitVec 32 := Scalar.muli v3985 c128_i32_1811
  let v3999 : BitVec 32 := v3998
  let v4001 : Index := Scalar.indexCast v3999
  ![v4000.toNat, 0, v4001.toNat]
def k0_mult35 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let c1_i32_171 : BitVec 32 := 1#32
  let arg25 : BitVec 32 := Scf.iv v386 c1_i32_171 k0_t4
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1814 : BitVec 32 := 128#32
  let v4006 : BitVec 32 := Scalar.muli v3985 c128_i32_1814
  v4006
def k0_mult36 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let c1_i32_171 : BitVec 32 := 1#32
  let arg25 : BitVec 32 := Scf.iv v386 c1_i32_171 k0_t4
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1817 : BitVec 32 := 128#32
  let v4014 : BitVec 32 := Scalar.muli v3985 c128_i32_1817
  v4014
def k0_mult37 (i : grid0.Coords) (k0_t4 : Fin (k0_t4_loop i).trips) : BitVec 32 :=
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_167 : BitVec 32 := 8#32
  let v381 : BitVec 32 := Scalar.muli v380 c8_i32_167
  let v382 : BitVec 32 := Scalar.subi v381 v220
  let c1_i32_169 : BitVec 32 := 1#32
  let v384 : BitVec 32 := Scalar.divsi v382 c1_i32_169
  let v385 : BitVec 32 := Scalar.muli v384 c1_i32_169
  let v386 : BitVec 32 := Scalar.addi v220 v385
  let c1_i32_171 : BitVec 32 := 1#32
  let arg25 : BitVec 32 := Scf.iv v386 c1_i32_171 k0_t4
  let c0_i32_1797 : BitVec 32 := 0#32
  let v3970 : BitVec 1 := Scalar.cmpi .sgt arg25 c0_i32_1797
  let v3971 : BitVec 32 := Scalar.extui v3970
  let c0_i32_1798 : BitVec 32 := 0#32
  let v3972 : BitVec 1 := Scalar.cmpi .slt arg25 c0_i32_1798
  let v3973 : BitVec 32 := Scalar.extui v3972
  let v3974 : BitVec 32 := Scalar.subi v3971 v3973
  let c8_i32_1796 : BitVec 32 := 8#32
  let c0_i32_1799 : BitVec 32 := 0#32
  let v3975 : BitVec 1 := Scalar.cmpi .sgt c8_i32_1796 c0_i32_1799
  let v3976 : BitVec 32 := Scalar.extui v3975
  let c0_i32_1800 : BitVec 32 := 0#32
  let v3977 : BitVec 1 := Scalar.cmpi .slt c8_i32_1796 c0_i32_1800
  let v3978 : BitVec 32 := Scalar.extui v3977
  let v3979 : BitVec 32 := Scalar.subi v3976 v3978
  let v3980 : BitVec 1 := Scalar.cmpi .ne v3974 v3979
  let v3981 : BitVec 32 := Scalar.remsi arg25 c8_i32_1796
  let c0_i32_1801 : BitVec 32 := 0#32
  let v3982 : BitVec 1 := Scalar.cmpi .ne v3981 c0_i32_1801
  let v3983 : BitVec 1 := Scalar.andi v3980 v3982
  let v3969 : BitVec 32 := Scalar.divsi arg25 c8_i32_1796
  let c1_i32_1802 : BitVec 32 := 1#32
  let v3984 : BitVec 32 := Scalar.subi v3969 c1_i32_1802
  let v3985 : BitVec 32 := Scalar.select v3983 v3984 v3969
  let c128_i32_1820 : BitVec 32 := 128#32
  let v4022 : BitVec 32 := Scalar.muli v3985 c128_i32_1820
  v4022
@[reducible] def k0_t5_loop (i : grid0.Coords) : Scf.Loop 32 :=
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_176 : BitVec 32 := 1#32
  ⟨c0_i32_174, v392, c1_i32_176⟩
def k0_mult38 (i : grid0.Coords) (k0_t5 : Fin (k0_t5_loop i).trips) : BitVec 32 :=
  let c0_i32_174 : BitVec 32 := 0#32
  let c1_i32_176 : BitVec 32 := 1#32
  let arg25 : BitVec 32 := Scf.iv c0_i32_174 c1_i32_176 k0_t5
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  v3946
def k0_mult39 (i : grid0.Coords) (k0_t5 : Fin (k0_t5_loop i).trips) : BitVec 32 :=
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let c0_i32_1799 : BitVec 32 := 0#32
  let v3959 : BitVec 32 := Scalar.addi v3958 c0_i32_1799
  v3959
def k0_off16 (i : grid0.Coords) (k0_t5 : Fin (k0_t5_loop i).trips) (c0_i32_1799 : BitVec 32) : Fin 3 → Nat :=
  let c0_1800 : Index := 0#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3961 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3962 : Index := Scalar.indexCast v3947
  ![0, v3961.toNat, v3962.toNat]
def k0_off17 (i : grid0.Coords) (k0_t5 : Fin (k0_t5_loop i).trips) (c0_i32_1799 : BitVec 32) : Fin 3 → Nat :=
  let c1_1801 : Index := 1#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3965 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3966 : Index := Scalar.indexCast v3947
  ![1, v3965.toNat, v3966.toNat]
def k0_off18 (i : grid0.Coords) (k0_t5 : Fin (k0_t5_loop i).trips) (c0_i32_1799 : BitVec 32) : Fin 3 → Nat :=
  let c2_1802 : Index := 2#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3969 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3970 : Index := Scalar.indexCast v3947
  ![2, v3969.toNat, v3970.toNat]
def k0_off19 (i : grid0.Coords) (k0_t5 : Fin (k0_t5_loop i).trips) (c0_i32_1799 : BitVec 32) : Fin 3 → Nat :=
  let c3_1803 : Index := 3#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3973 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3974 : Index := Scalar.indexCast v3947
  ![3, v3973.toNat, v3974.toNat]
def k0_off20 (i : grid0.Coords) (k0_t5 : Fin (k0_t5_loop i).trips) (c0_i32_1799 : BitVec 32) : Fin 3 → Nat :=
  let c4_1804 : Index := 4#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3977 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3978 : Index := Scalar.indexCast v3947
  ![4, v3977.toNat, v3978.toNat]
def k0_off21 (i : grid0.Coords) (k0_t5 : Fin (k0_t5_loop i).trips) (c0_i32_1799 : BitVec 32) : Fin 3 → Nat :=
  let c5_1805 : Index := 5#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3981 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3982 : Index := Scalar.indexCast v3947
  ![5, v3981.toNat, v3982.toNat]
def k0_off22 (i : grid0.Coords) (k0_t5 : Fin (k0_t5_loop i).trips) (c0_i32_1799 : BitVec 32) : Fin 3 → Nat :=
  let c6_1806 : Index := 6#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3985 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3986 : Index := Scalar.indexCast v3947
  ![6, v3985.toNat, v3986.toNat]
def k0_off23 (i : grid0.Coords) (k0_t5 : Fin (k0_t5_loop i).trips) (c0_i32_1799 : BitVec 32) : Fin 3 → Nat :=
  let c7_1807 : Index := 7#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3989 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3990 : Index := Scalar.indexCast v3947
  ![7, v3989.toNat, v3990.toNat]
def k0_off24 (i : grid0.Coords) (k0_t5 : Fin (k0_t5_loop i).trips) (c0_i32_1799 : BitVec 32) : Fin 3 → Nat :=
  let c8_1808 : Index := 8#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3993 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3994 : Index := Scalar.indexCast v3947
  ![8, v3993.toNat, v3994.toNat]
def k0_off25 (i : grid0.Coords) (k0_t5 : Fin (k0_t5_loop i).trips) (c0_i32_1799 : BitVec 32) : Fin 3 → Nat :=
  let c9_1809 : Index := 9#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3997 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3998 : Index := Scalar.indexCast v3947
  ![9, v3997.toNat, v3998.toNat]
def k0_off26 (i : grid0.Coords) (k0_t5 : Fin (k0_t5_loop i).trips) (c0_i32_1799 : BitVec 32) : Fin 3 → Nat :=
  let c10_1810 : Index := 10#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4001 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4002 : Index := Scalar.indexCast v3947
  ![10, v4001.toNat, v4002.toNat]
def k0_off27 (i : grid0.Coords) (k0_t5 : Fin (k0_t5_loop i).trips) (c0_i32_1799 : BitVec 32) : Fin 3 → Nat :=
  let c11_1811 : Index := 11#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4005 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4006 : Index := Scalar.indexCast v3947
  ![11, v4005.toNat, v4006.toNat]
def k0_off28 (i : grid0.Coords) (k0_t5 : Fin (k0_t5_loop i).trips) (c0_i32_1799 : BitVec 32) : Fin 3 → Nat :=
  let c12_1812 : Index := 12#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4009 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4010 : Index := Scalar.indexCast v3947
  ![12, v4009.toNat, v4010.toNat]
def k0_off29 (i : grid0.Coords) (k0_t5 : Fin (k0_t5_loop i).trips) (c0_i32_1799 : BitVec 32) : Fin 3 → Nat :=
  let c13_1813 : Index := 13#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4013 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4014 : Index := Scalar.indexCast v3947
  ![13, v4013.toNat, v4014.toNat]
def k0_off30 (i : grid0.Coords) (k0_t5 : Fin (k0_t5_loop i).trips) (c0_i32_1799 : BitVec 32) : Fin 3 → Nat :=
  let c14_1814 : Index := 14#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4017 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4018 : Index := Scalar.indexCast v3947
  ![14, v4017.toNat, v4018.toNat]
def k0_off31 (i : grid0.Coords) (k0_t5 : Fin (k0_t5_loop i).trips) (c0_i32_1799 : BitVec 32) : Fin 3 → Nat :=
  let c15_1815 : Index := 15#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4021 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4022 : Index := Scalar.indexCast v3947
  ![15, v4021.toNat, v4022.toNat]
def k0_off32 (i : grid0.Coords) (k0_t5 : Fin (k0_t5_loop i).trips) (c0_i32_1799 : BitVec 32) : Fin 3 → Nat :=
  let c16_1816 : Index := 16#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4025 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4026 : Index := Scalar.indexCast v3947
  ![16, v4025.toNat, v4026.toNat]
def k0_off33 (i : grid0.Coords) (k0_t5 : Fin (k0_t5_loop i).trips) (c0_i32_1799 : BitVec 32) : Fin 3 → Nat :=
  let c17_1817 : Index := 17#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4029 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4030 : Index := Scalar.indexCast v3947
  ![17, v4029.toNat, v4030.toNat]
def k0_off34 (i : grid0.Coords) (k0_t5 : Fin (k0_t5_loop i).trips) (c0_i32_1799 : BitVec 32) : Fin 3 → Nat :=
  let c18_1818 : Index := 18#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4033 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4034 : Index := Scalar.indexCast v3947
  ![18, v4033.toNat, v4034.toNat]
def k0_off35 (i : grid0.Coords) (k0_t5 : Fin (k0_t5_loop i).trips) (c0_i32_1799 : BitVec 32) : Fin 3 → Nat :=
  let c19_1819 : Index := 19#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4037 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4038 : Index := Scalar.indexCast v3947
  ![19, v4037.toNat, v4038.toNat]
def k0_off36 (i : grid0.Coords) (k0_t5 : Fin (k0_t5_loop i).trips) (c0_i32_1799 : BitVec 32) : Fin 3 → Nat :=
  let c20_1820 : Index := 20#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4041 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4042 : Index := Scalar.indexCast v3947
  ![20, v4041.toNat, v4042.toNat]
def k0_off37 (i : grid0.Coords) (k0_t5 : Fin (k0_t5_loop i).trips) (c0_i32_1799 : BitVec 32) : Fin 3 → Nat :=
  let c21_1821 : Index := 21#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4045 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4046 : Index := Scalar.indexCast v3947
  ![21, v4045.toNat, v4046.toNat]
def k0_off38 (i : grid0.Coords) (k0_t5 : Fin (k0_t5_loop i).trips) (c0_i32_1799 : BitVec 32) : Fin 3 → Nat :=
  let c22_1822 : Index := 22#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4049 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4050 : Index := Scalar.indexCast v3947
  ![22, v4049.toNat, v4050.toNat]
def k0_off39 (i : grid0.Coords) (k0_t5 : Fin (k0_t5_loop i).trips) (c0_i32_1799 : BitVec 32) : Fin 3 → Nat :=
  let c23_1823 : Index := 23#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4053 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4054 : Index := Scalar.indexCast v3947
  ![23, v4053.toNat, v4054.toNat]
def k0_off40 (i : grid0.Coords) (k0_t5 : Fin (k0_t5_loop i).trips) (c0_i32_1799 : BitVec 32) : Fin 3 → Nat :=
  let c24_1824 : Index := 24#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4057 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4058 : Index := Scalar.indexCast v3947
  ![24, v4057.toNat, v4058.toNat]
def k0_off41 (i : grid0.Coords) (k0_t5 : Fin (k0_t5_loop i).trips) (c0_i32_1799 : BitVec 32) : Fin 3 → Nat :=
  let c25_1825 : Index := 25#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4061 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4062 : Index := Scalar.indexCast v3947
  ![25, v4061.toNat, v4062.toNat]
def k0_off42 (i : grid0.Coords) (k0_t5 : Fin (k0_t5_loop i).trips) (c0_i32_1799 : BitVec 32) : Fin 3 → Nat :=
  let c26_1826 : Index := 26#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4065 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4066 : Index := Scalar.indexCast v3947
  ![26, v4065.toNat, v4066.toNat]
def k0_off43 (i : grid0.Coords) (k0_t5 : Fin (k0_t5_loop i).trips) (c0_i32_1799 : BitVec 32) : Fin 3 → Nat :=
  let c27_1827 : Index := 27#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4069 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4070 : Index := Scalar.indexCast v3947
  ![27, v4069.toNat, v4070.toNat]
def k0_off44 (i : grid0.Coords) (k0_t5 : Fin (k0_t5_loop i).trips) (c0_i32_1799 : BitVec 32) : Fin 3 → Nat :=
  let c28_1828 : Index := 28#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4073 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4074 : Index := Scalar.indexCast v3947
  ![28, v4073.toNat, v4074.toNat]
def k0_off45 (i : grid0.Coords) (k0_t5 : Fin (k0_t5_loop i).trips) (c0_i32_1799 : BitVec 32) : Fin 3 → Nat :=
  let c29_1829 : Index := 29#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4077 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4078 : Index := Scalar.indexCast v3947
  ![29, v4077.toNat, v4078.toNat]
def k0_off46 (i : grid0.Coords) (k0_t5 : Fin (k0_t5_loop i).trips) (c0_i32_1799 : BitVec 32) : Fin 3 → Nat :=
  let c30_1830 : Index := 30#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4081 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4082 : Index := Scalar.indexCast v3947
  ![30, v4081.toNat, v4082.toNat]
def k0_off47 (i : grid0.Coords) (k0_t5 : Fin (k0_t5_loop i).trips) (c0_i32_1799 : BitVec 32) : Fin 3 → Nat :=
  let c31_1831 : Index := 31#32
  let c0_i32_174 : BitVec 32 := 0#32
  let c1_i32_176 : BitVec 32 := 1#32
  let arg25 : BitVec 32 := Scf.iv c0_i32_174 c1_i32_176 k0_t5
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4085 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4086 : Index := Scalar.indexCast v3947
  ![31, v4085.toNat, v4086.toNat]
def k0_mult40 (i : grid0.Coords) (k0_t5 : Fin (k0_t5_loop i).trips) : BitVec 32 :=
  let c0_i32_174 : BitVec 32 := 0#32
  let c1_i32_176 : BitVec 32 := 1#32
  let arg25 : BitVec 32 := Scf.iv c0_i32_174 c1_i32_176 k0_t5
  let c8_i32_2006 : BitVec 32 := 8#32
  let c0_i32_2007 : BitVec 32 := 0#32
  let v4682 : BitVec 1 := Scalar.cmpi .eq c8_i32_2006 c0_i32_2007
  let c1_i32_2008 : BitVec 32 := 1#32
  let v4683 : BitVec 32 := Scalar.select v4682 c1_i32_2008 c8_i32_2006
  let v4684 : BitVec 32 := Scalar.remsi arg25 v4683
  let c0_i32_2010 : BitVec 32 := 0#32
  let v4686 : BitVec 1 := Scalar.cmpi .slt v4684 c0_i32_2010
  let c0_i32_2011 : BitVec 32 := 0#32
  let v4687 : BitVec 1 := Scalar.cmpi .slt v4683 c0_i32_2011
  let v4688 : BitVec 1 := Scalar.xori v4686 v4687
  let c0_i32_2009 : BitVec 32 := 0#32
  let v4685 : BitVec 1 := Scalar.cmpi .ne v4684 c0_i32_2009
  let v4689 : BitVec 1 := Scalar.andi v4688 v4685
  let v4690 : BitVec 32 := Scalar.addi v4684 v4683
  let v4691 : BitVec 32 := Scalar.select v4689 v4690 v4684
  let c16_i32_2012 : BitVec 32 := 16#32
  let v4692 : BitVec 32 := Scalar.muli v4691 c16_i32_2012
  let c8_i32_2013 : BitVec 32 := 8#32
  let v4693 : BitVec 32 := Scalar.addi v4692 c8_i32_2013
  v4693
@[reducible] def k0_t6_loop (i : grid0.Coords) : Scf.Loop 32 :=
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let v389 : BitVec 32 := Scalar.addi c0_i32_174 v388
  let c1_i32_177 : BitVec 32 := 1#32
  ⟨v392, v389, c1_i32_177⟩
def k0_mult41 (i : grid0.Coords) (k0_t6 : Fin (k0_t6_loop i).trips) : BitVec 32 :=
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  v3946
def k0_mult42 (i : grid0.Coords) (k0_t6 : Fin (k0_t6_loop i).trips) : BitVec 32 :=
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let c0_i32_1799 : BitVec 32 := 0#32
  let v3959 : BitVec 32 := Scalar.addi v3958 c0_i32_1799
  v3959
def k0_off48 (i : grid0.Coords) (k0_t6 : Fin (k0_t6_loop i).trips) (c0_i32_1799 : BitVec 32) : Fin 3 → Nat :=
  let c0_1800 : Index := 0#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3961 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3962 : Index := Scalar.indexCast v3947
  ![0, v3961.toNat, v3962.toNat]
def k0_off49 (i : grid0.Coords) (k0_t6 : Fin (k0_t6_loop i).trips) (c0_i32_1799 : BitVec 32) : Fin 3 → Nat :=
  let c1_1801 : Index := 1#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3965 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3966 : Index := Scalar.indexCast v3947
  ![1, v3965.toNat, v3966.toNat]
def k0_off50 (i : grid0.Coords) (k0_t6 : Fin (k0_t6_loop i).trips) (c0_i32_1799 : BitVec 32) : Fin 3 → Nat :=
  let c2_1802 : Index := 2#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3969 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3970 : Index := Scalar.indexCast v3947
  ![2, v3969.toNat, v3970.toNat]
def k0_off51 (i : grid0.Coords) (k0_t6 : Fin (k0_t6_loop i).trips) (c0_i32_1799 : BitVec 32) : Fin 3 → Nat :=
  let c3_1803 : Index := 3#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3973 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3974 : Index := Scalar.indexCast v3947
  ![3, v3973.toNat, v3974.toNat]
def k0_off52 (i : grid0.Coords) (k0_t6 : Fin (k0_t6_loop i).trips) (c0_i32_1799 : BitVec 32) : Fin 3 → Nat :=
  let c4_1804 : Index := 4#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3977 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3978 : Index := Scalar.indexCast v3947
  ![4, v3977.toNat, v3978.toNat]
def k0_off53 (i : grid0.Coords) (k0_t6 : Fin (k0_t6_loop i).trips) (c0_i32_1799 : BitVec 32) : Fin 3 → Nat :=
  let c5_1805 : Index := 5#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3981 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3982 : Index := Scalar.indexCast v3947
  ![5, v3981.toNat, v3982.toNat]
def k0_off54 (i : grid0.Coords) (k0_t6 : Fin (k0_t6_loop i).trips) (c0_i32_1799 : BitVec 32) : Fin 3 → Nat :=
  let c6_1806 : Index := 6#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3985 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3986 : Index := Scalar.indexCast v3947
  ![6, v3985.toNat, v3986.toNat]
def k0_off55 (i : grid0.Coords) (k0_t6 : Fin (k0_t6_loop i).trips) (c0_i32_1799 : BitVec 32) : Fin 3 → Nat :=
  let c7_1807 : Index := 7#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3989 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3990 : Index := Scalar.indexCast v3947
  ![7, v3989.toNat, v3990.toNat]
def k0_off56 (i : grid0.Coords) (k0_t6 : Fin (k0_t6_loop i).trips) (c0_i32_1799 : BitVec 32) : Fin 3 → Nat :=
  let c8_1808 : Index := 8#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3993 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3994 : Index := Scalar.indexCast v3947
  ![8, v3993.toNat, v3994.toNat]
def k0_off57 (i : grid0.Coords) (k0_t6 : Fin (k0_t6_loop i).trips) (c0_i32_1799 : BitVec 32) : Fin 3 → Nat :=
  let c9_1809 : Index := 9#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v3997 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v3998 : Index := Scalar.indexCast v3947
  ![9, v3997.toNat, v3998.toNat]
def k0_off58 (i : grid0.Coords) (k0_t6 : Fin (k0_t6_loop i).trips) (c0_i32_1799 : BitVec 32) : Fin 3 → Nat :=
  let c10_1810 : Index := 10#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4001 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4002 : Index := Scalar.indexCast v3947
  ![10, v4001.toNat, v4002.toNat]
def k0_off59 (i : grid0.Coords) (k0_t6 : Fin (k0_t6_loop i).trips) (c0_i32_1799 : BitVec 32) : Fin 3 → Nat :=
  let c11_1811 : Index := 11#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4005 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4006 : Index := Scalar.indexCast v3947
  ![11, v4005.toNat, v4006.toNat]
def k0_off60 (i : grid0.Coords) (k0_t6 : Fin (k0_t6_loop i).trips) (c0_i32_1799 : BitVec 32) : Fin 3 → Nat :=
  let c12_1812 : Index := 12#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4009 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4010 : Index := Scalar.indexCast v3947
  ![12, v4009.toNat, v4010.toNat]
def k0_off61 (i : grid0.Coords) (k0_t6 : Fin (k0_t6_loop i).trips) (c0_i32_1799 : BitVec 32) : Fin 3 → Nat :=
  let c13_1813 : Index := 13#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4013 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4014 : Index := Scalar.indexCast v3947
  ![13, v4013.toNat, v4014.toNat]
def k0_off62 (i : grid0.Coords) (k0_t6 : Fin (k0_t6_loop i).trips) (c0_i32_1799 : BitVec 32) : Fin 3 → Nat :=
  let c14_1814 : Index := 14#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4017 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4018 : Index := Scalar.indexCast v3947
  ![14, v4017.toNat, v4018.toNat]
def k0_off63 (i : grid0.Coords) (k0_t6 : Fin (k0_t6_loop i).trips) (c0_i32_1799 : BitVec 32) : Fin 3 → Nat :=
  let c15_1815 : Index := 15#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4021 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4022 : Index := Scalar.indexCast v3947
  ![15, v4021.toNat, v4022.toNat]
def k0_off64 (i : grid0.Coords) (k0_t6 : Fin (k0_t6_loop i).trips) (c0_i32_1799 : BitVec 32) : Fin 3 → Nat :=
  let c16_1816 : Index := 16#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4025 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4026 : Index := Scalar.indexCast v3947
  ![16, v4025.toNat, v4026.toNat]
def k0_off65 (i : grid0.Coords) (k0_t6 : Fin (k0_t6_loop i).trips) (c0_i32_1799 : BitVec 32) : Fin 3 → Nat :=
  let c17_1817 : Index := 17#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4029 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4030 : Index := Scalar.indexCast v3947
  ![17, v4029.toNat, v4030.toNat]
def k0_off66 (i : grid0.Coords) (k0_t6 : Fin (k0_t6_loop i).trips) (c0_i32_1799 : BitVec 32) : Fin 3 → Nat :=
  let c18_1818 : Index := 18#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4033 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4034 : Index := Scalar.indexCast v3947
  ![18, v4033.toNat, v4034.toNat]
def k0_off67 (i : grid0.Coords) (k0_t6 : Fin (k0_t6_loop i).trips) (c0_i32_1799 : BitVec 32) : Fin 3 → Nat :=
  let c19_1819 : Index := 19#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4037 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4038 : Index := Scalar.indexCast v3947
  ![19, v4037.toNat, v4038.toNat]
def k0_off68 (i : grid0.Coords) (k0_t6 : Fin (k0_t6_loop i).trips) (c0_i32_1799 : BitVec 32) : Fin 3 → Nat :=
  let c20_1820 : Index := 20#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4041 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4042 : Index := Scalar.indexCast v3947
  ![20, v4041.toNat, v4042.toNat]
def k0_off69 (i : grid0.Coords) (k0_t6 : Fin (k0_t6_loop i).trips) (c0_i32_1799 : BitVec 32) : Fin 3 → Nat :=
  let c21_1821 : Index := 21#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4045 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4046 : Index := Scalar.indexCast v3947
  ![21, v4045.toNat, v4046.toNat]
def k0_off70 (i : grid0.Coords) (k0_t6 : Fin (k0_t6_loop i).trips) (c0_i32_1799 : BitVec 32) : Fin 3 → Nat :=
  let c22_1822 : Index := 22#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4049 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4050 : Index := Scalar.indexCast v3947
  ![22, v4049.toNat, v4050.toNat]
def k0_off71 (i : grid0.Coords) (k0_t6 : Fin (k0_t6_loop i).trips) (c0_i32_1799 : BitVec 32) : Fin 3 → Nat :=
  let c23_1823 : Index := 23#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4053 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4054 : Index := Scalar.indexCast v3947
  ![23, v4053.toNat, v4054.toNat]
def k0_off72 (i : grid0.Coords) (k0_t6 : Fin (k0_t6_loop i).trips) (c0_i32_1799 : BitVec 32) : Fin 3 → Nat :=
  let c24_1824 : Index := 24#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4057 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4058 : Index := Scalar.indexCast v3947
  ![24, v4057.toNat, v4058.toNat]
def k0_off73 (i : grid0.Coords) (k0_t6 : Fin (k0_t6_loop i).trips) (c0_i32_1799 : BitVec 32) : Fin 3 → Nat :=
  let c25_1825 : Index := 25#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4061 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4062 : Index := Scalar.indexCast v3947
  ![25, v4061.toNat, v4062.toNat]
def k0_off74 (i : grid0.Coords) (k0_t6 : Fin (k0_t6_loop i).trips) (c0_i32_1799 : BitVec 32) : Fin 3 → Nat :=
  let c26_1826 : Index := 26#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4065 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4066 : Index := Scalar.indexCast v3947
  ![26, v4065.toNat, v4066.toNat]
def k0_off75 (i : grid0.Coords) (k0_t6 : Fin (k0_t6_loop i).trips) (c0_i32_1799 : BitVec 32) : Fin 3 → Nat :=
  let c27_1827 : Index := 27#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4069 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4070 : Index := Scalar.indexCast v3947
  ![27, v4069.toNat, v4070.toNat]
def k0_off76 (i : grid0.Coords) (k0_t6 : Fin (k0_t6_loop i).trips) (c0_i32_1799 : BitVec 32) : Fin 3 → Nat :=
  let c28_1828 : Index := 28#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4073 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4074 : Index := Scalar.indexCast v3947
  ![28, v4073.toNat, v4074.toNat]
def k0_off77 (i : grid0.Coords) (k0_t6 : Fin (k0_t6_loop i).trips) (c0_i32_1799 : BitVec 32) : Fin 3 → Nat :=
  let c29_1829 : Index := 29#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4077 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4078 : Index := Scalar.indexCast v3947
  ![29, v4077.toNat, v4078.toNat]
def k0_off78 (i : grid0.Coords) (k0_t6 : Fin (k0_t6_loop i).trips) (c0_i32_1799 : BitVec 32) : Fin 3 → Nat :=
  let c30_1830 : Index := 30#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4081 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4082 : Index := Scalar.indexCast v3947
  ![30, v4081.toNat, v4082.toNat]
def k0_off79 (i : grid0.Coords) (k0_t6 : Fin (k0_t6_loop i).trips) (c0_i32_1799 : BitVec 32) : Fin 3 → Nat :=
  let c31_1831 : Index := 31#32
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_1792 : BitVec 32 := 8#32
  let c0_i32_1793 : BitVec 32 := 0#32
  let v3948 : BitVec 1 := Scalar.cmpi .eq c8_i32_1792 c0_i32_1793
  let c1_i32_1794 : BitVec 32 := 1#32
  let v3949 : BitVec 32 := Scalar.select v3948 c1_i32_1794 c8_i32_1792
  let v3950 : BitVec 32 := Scalar.remsi arg25 v3949
  let c0_i32_1796 : BitVec 32 := 0#32
  let v3952 : BitVec 1 := Scalar.cmpi .slt v3950 c0_i32_1796
  let c0_i32_1797 : BitVec 32 := 0#32
  let v3953 : BitVec 1 := Scalar.cmpi .slt v3949 c0_i32_1797
  let v3954 : BitVec 1 := Scalar.xori v3952 v3953
  let c0_i32_1795 : BitVec 32 := 0#32
  let v3951 : BitVec 1 := Scalar.cmpi .ne v3950 c0_i32_1795
  let v3955 : BitVec 1 := Scalar.andi v3954 v3951
  let v3956 : BitVec 32 := Scalar.addi v3950 v3949
  let v3957 : BitVec 32 := Scalar.select v3955 v3956 v3950
  let c16_i32_1798 : BitVec 32 := 16#32
  let v3958 : BitVec 32 := Scalar.muli v3957 c16_i32_1798
  let v3959 : BitVec 32 := Scalar.addi v3958 c0_i32_1799
  let v3960 : BitVec 32 := v3959
  let v4085 : Index := Scalar.indexCast v3960
  let c0_i32_1785 : BitVec 32 := 0#32
  let v3930 : BitVec 1 := Scalar.cmpi .sgt arg25 c0_i32_1785
  let v3931 : BitVec 32 := Scalar.extui v3930
  let c0_i32_1786 : BitVec 32 := 0#32
  let v3932 : BitVec 1 := Scalar.cmpi .slt arg25 c0_i32_1786
  let v3933 : BitVec 32 := Scalar.extui v3932
  let v3934 : BitVec 32 := Scalar.subi v3931 v3933
  let c8_i32_1784 : BitVec 32 := 8#32
  let c0_i32_1787 : BitVec 32 := 0#32
  let v3935 : BitVec 1 := Scalar.cmpi .sgt c8_i32_1784 c0_i32_1787
  let v3936 : BitVec 32 := Scalar.extui v3935
  let c0_i32_1788 : BitVec 32 := 0#32
  let v3937 : BitVec 1 := Scalar.cmpi .slt c8_i32_1784 c0_i32_1788
  let v3938 : BitVec 32 := Scalar.extui v3937
  let v3939 : BitVec 32 := Scalar.subi v3936 v3938
  let v3940 : BitVec 1 := Scalar.cmpi .ne v3934 v3939
  let v3941 : BitVec 32 := Scalar.remsi arg25 c8_i32_1784
  let c0_i32_1789 : BitVec 32 := 0#32
  let v3942 : BitVec 1 := Scalar.cmpi .ne v3941 c0_i32_1789
  let v3943 : BitVec 1 := Scalar.andi v3940 v3942
  let v3929 : BitVec 32 := Scalar.divsi arg25 c8_i32_1784
  let c1_i32_1790 : BitVec 32 := 1#32
  let v3944 : BitVec 32 := Scalar.subi v3929 c1_i32_1790
  let v3945 : BitVec 32 := Scalar.select v3943 v3944 v3929
  let c128_i32_1791 : BitVec 32 := 128#32
  let v3946 : BitVec 32 := Scalar.muli v3945 c128_i32_1791
  let v3947 : BitVec 32 := v3946
  let v4086 : Index := Scalar.indexCast v3947
  ![31, v4085.toNat, v4086.toNat]
def k0_mult43 (i : grid0.Coords) (k0_t6 : Fin (k0_t6_loop i).trips) : BitVec 32 :=
  let c0_i32_174 : BitVec 32 := 0#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let c8_i32_158 : BitVec 32 := 8#32
  let v362 : BitVec 32 := Scalar.addi v220 c8_i32_158
  let c1_i32_159 : BitVec 32 := 1#32
  let v363 : BitVec 32 := Scalar.subi v362 c1_i32_159
  let c0_i32_161 : BitVec 32 := 0#32
  let v365 : BitVec 1 := Scalar.cmpi .sgt v363 c0_i32_161
  let v366 : BitVec 32 := Scalar.extui v365
  let c0_i32_162 : BitVec 32 := 0#32
  let v367 : BitVec 1 := Scalar.cmpi .slt v363 c0_i32_162
  let v368 : BitVec 32 := Scalar.extui v367
  let v369 : BitVec 32 := Scalar.subi v366 v368
  let c8_i32_160 : BitVec 32 := 8#32
  let c0_i32_163 : BitVec 32 := 0#32
  let v370 : BitVec 1 := Scalar.cmpi .sgt c8_i32_160 c0_i32_163
  let v371 : BitVec 32 := Scalar.extui v370
  let c0_i32_164 : BitVec 32 := 0#32
  let v372 : BitVec 1 := Scalar.cmpi .slt c8_i32_160 c0_i32_164
  let v373 : BitVec 32 := Scalar.extui v372
  let v374 : BitVec 32 := Scalar.subi v371 v373
  let v375 : BitVec 1 := Scalar.cmpi .ne v369 v374
  let v376 : BitVec 32 := Scalar.remsi v363 c8_i32_160
  let c0_i32_165 : BitVec 32 := 0#32
  let v377 : BitVec 1 := Scalar.cmpi .ne v376 c0_i32_165
  let v378 : BitVec 1 := Scalar.andi v375 v377
  let v364 : BitVec 32 := Scalar.divsi v363 c8_i32_160
  let c1_i32_166 : BitVec 32 := 1#32
  let v379 : BitVec 32 := Scalar.subi v364 c1_i32_166
  let v380 : BitVec 32 := Scalar.select v378 v379 v364
  let c8_i32_172 : BitVec 32 := 8#32
  let v387 : BitVec 32 := Scalar.muli v380 c8_i32_172
  let v388 : BitVec 32 := Scalar.subi v387 c0_i32_174
  let c1_i32_175 : BitVec 32 := 1#32
  let v390 : BitVec 32 := Scalar.divsi v388 c1_i32_175
  let v391 : BitVec 32 := Scalar.muli v390 c1_i32_175
  let v392 : BitVec 32 := Scalar.addi c0_i32_174 v391
  let c1_i32_177 : BitVec 32 := 1#32
  let arg25 : BitVec 32 := Scf.iv v392 c1_i32_177 k0_t6
  let c8_i32_2006 : BitVec 32 := 8#32
  let c0_i32_2007 : BitVec 32 := 0#32
  let v4682 : BitVec 1 := Scalar.cmpi .eq c8_i32_2006 c0_i32_2007
  let c1_i32_2008 : BitVec 32 := 1#32
  let v4683 : BitVec 32 := Scalar.select v4682 c1_i32_2008 c8_i32_2006
  let v4684 : BitVec 32 := Scalar.remsi arg25 v4683
  let c0_i32_2010 : BitVec 32 := 0#32
  let v4686 : BitVec 1 := Scalar.cmpi .slt v4684 c0_i32_2010
  let c0_i32_2011 : BitVec 32 := 0#32
  let v4687 : BitVec 1 := Scalar.cmpi .slt v4683 c0_i32_2011
  let v4688 : BitVec 1 := Scalar.xori v4686 v4687
  let c0_i32_2009 : BitVec 32 := 0#32
  let v4685 : BitVec 1 := Scalar.cmpi .ne v4684 c0_i32_2009
  let v4689 : BitVec 1 := Scalar.andi v4688 v4685
  let v4690 : BitVec 32 := Scalar.addi v4684 v4683
  let v4691 : BitVec 32 := Scalar.select v4689 v4690 v4684
  let c16_i32_2012 : BitVec 32 := 16#32
  let v4692 : BitVec 32 := Scalar.muli v4691 c16_i32_2012
  let c8_i32_2013 : BitVec 32 := 8#32
  let v4693 : BitVec 32 := Scalar.addi v4692 c8_i32_2013
  v4693
def k0_mult44 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_275 : BitVec 32 := 512#32
  let v654 : BitVec 32 := Scalar.subi v412 c512_i32_275
  v654
def k0_off80 (i : grid0.Coords) : Fin 3 → Nat :=
  let c0_276 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_275 : BitVec 32 := 512#32
  let v654 : BitVec 32 := Scalar.subi v412 c512_i32_275
  let v655 : BitVec 32 := v654
  let v656 : Index := Scalar.indexCast v655
  let c0_277 : Index := 0#32
  ![0, v656.toNat, 0]
def k0_mult45 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_316 : BitVec 32 := 512#32
  let v773 : BitVec 32 := Scalar.subi v412 c512_i32_316
  v773
def k0_mult46 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_357 : BitVec 32 := 512#32
  let v892 : BitVec 32 := Scalar.subi v412 c512_i32_357
  v892
def k0_mult47 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_398 : BitVec 32 := 512#32
  let v1011 : BitVec 32 := Scalar.subi v412 c512_i32_398
  v1011
def k0_mult48 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_439 : BitVec 32 := 512#32
  let v1130 : BitVec 32 := Scalar.subi v412 c512_i32_439
  v1130
def k0_mult49 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_480 : BitVec 32 := 512#32
  let v1249 : BitVec 32 := Scalar.subi v412 c512_i32_480
  v1249
def k0_mult50 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_521 : BitVec 32 := 512#32
  let v1368 : BitVec 32 := Scalar.subi v412 c512_i32_521
  v1368
def k0_mult51 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_562 : BitVec 32 := 512#32
  let v1487 : BitVec 32 := Scalar.subi v412 c512_i32_562
  v1487
def k0_mult52 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_603 : BitVec 32 := 512#32
  let v1606 : BitVec 32 := Scalar.subi v412 c512_i32_603
  v1606
def k0_mult53 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_645 : BitVec 32 := 512#32
  let v1725 : BitVec 32 := Scalar.subi v412 c512_i32_645
  v1725
def k0_mult54 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_690 : BitVec 32 := 512#32
  let v1844 : BitVec 32 := Scalar.subi v412 c512_i32_690
  v1844
def k0_mult55 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_734 : BitVec 32 := 512#32
  let v1963 : BitVec 32 := Scalar.subi v412 c512_i32_734
  v1963
def k0_mult56 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_779 : BitVec 32 := 512#32
  let v2082 : BitVec 32 := Scalar.subi v412 c512_i32_779
  v2082
def k0_mult57 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_824 : BitVec 32 := 512#32
  let v2201 : BitVec 32 := Scalar.subi v412 c512_i32_824
  v2201
def k0_mult58 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_869 : BitVec 32 := 512#32
  let v2320 : BitVec 32 := Scalar.subi v412 c512_i32_869
  v2320
def k0_mult59 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_877 : BitVec 32 := 512#32
  let v2330 : BitVec 32 := Scalar.subi v412 c512_i32_877
  v2330
def k0_mult60 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_902 : BitVec 32 := 512#32
  let c1_i32_900 : BitVec 32 := 1#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_899 : BitVec 32 := 1#32
  let v2374 : BitVec 32 := Scalar.subi v432 c1_i32_899
  let v2375 : BitVec 32 := Scalar.minsi c1_i32_900 v2374
  let c1_i32_901 : BitVec 32 := 1#32
  let v2376 : BitVec 32 := Scalar.addi v2375 c1_i32_901
  let v2377 : BitVec 32 := Scalar.muli c512_i32_902 v2376
  let v2378 : BitVec 32 := Scalar.subi v412 v2377
  v2378
def k0_off81 (i : grid0.Coords) : Fin 3 → Nat :=
  let c0_903 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_902 : BitVec 32 := 512#32
  let c1_i32_900 : BitVec 32 := 1#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_899 : BitVec 32 := 1#32
  let v2374 : BitVec 32 := Scalar.subi v432 c1_i32_899
  let v2375 : BitVec 32 := Scalar.minsi c1_i32_900 v2374
  let c1_i32_901 : BitVec 32 := 1#32
  let v2376 : BitVec 32 := Scalar.addi v2375 c1_i32_901
  let v2377 : BitVec 32 := Scalar.muli c512_i32_902 v2376
  let v2378 : BitVec 32 := Scalar.subi v412 v2377
  let v2379 : BitVec 32 := v2378
  let v2380 : Index := Scalar.indexCast v2379
  let c0_904 : Index := 0#32
  ![0, v2380.toNat, 0]
def k0_mult61 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_910 : BitVec 32 := 512#32
  let v2388 : BitVec 32 := Scalar.subi v412 c512_i32_910
  v2388
def k0_off82 (i : grid0.Coords) : Fin 2 → Nat :=
  let c0_911 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_910 : BitVec 32 := 512#32
  let v2388 : BitVec 32 := Scalar.subi v412 c512_i32_910
  let v2389 : BitVec 32 := v2388
  let v2390 : Index := Scalar.indexCast v2389
  ![0, v2390.toNat]
@[reducible] def k0_t7_loop : Scf.Loop 32 :=
  let c0_i32_1786 : BitVec 32 := 0#32
  let c15_i32 : BitVec 32 := 15#32
  let v3933 : BitVec 32 := Scalar.addi c0_i32_1786 c15_i32
  let c1_i32_1787 : BitVec 32 := 1#32
  ⟨c0_i32_1786, v3933, c1_i32_1787⟩
@[reducible] def k0_t8_loop (i : grid0.Coords) : Scf.Loop 32 :=
  let c1_i32_2496 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v5266 : BitVec 32 := Scalar.subi v220 c1_i32_2496
  let c1_i32_2497 : BitVec 32 := 1#32
  let v5268 : BitVec 32 := Scalar.divsi v5266 c1_i32_2497
  let v5269 : BitVec 32 := Scalar.muli v5268 c1_i32_2497
  let v5270 : BitVec 32 := Scalar.addi c1_i32_2496 v5269
  let c1_i32_2498 : BitVec 32 := 1#32
  ⟨c1_i32_2496, v5270, c1_i32_2498⟩
def k0_mult62 (i : grid0.Coords) (k0_t8 : Fin (k0_t8_loop i).trips) : BitVec 32 :=
  let c1_i32_2496 : BitVec 32 := 1#32
  let c1_i32_2498 : BitVec 32 := 1#32
  let arg27 : BitVec 32 := Scf.iv c1_i32_2496 c1_i32_2498 k0_t8
  let c512_i32_2501 : BitVec 32 := 512#32
  let v5280 : BitVec 32 := Scalar.muli arg27 c512_i32_2501
  v5280
def k0_off83 (i : grid0.Coords) (k0_t8 : Fin (k0_t8_loop i).trips) : Fin 2 → Nat :=
  let c0_2502 : Index := 0#32
  let c1_i32_2496 : BitVec 32 := 1#32
  let c1_i32_2498 : BitVec 32 := 1#32
  let arg27 : BitVec 32 := Scf.iv c1_i32_2496 c1_i32_2498 k0_t8
  let c512_i32_2501 : BitVec 32 := 512#32
  let v5280 : BitVec 32 := Scalar.muli arg27 c512_i32_2501
  let v5281 : BitVec 32 := v5280
  let v5282 : Index := Scalar.indexCast v5281
  ![0, v5282.toNat]
@[reducible] def k0_t9_loop (i : grid0.Coords) : Scf.Loop 32 :=
  let c1_i32_2496 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v5266 : BitVec 32 := Scalar.subi v220 c1_i32_2496
  let c1_i32_2497 : BitVec 32 := 1#32
  let v5268 : BitVec 32 := Scalar.divsi v5266 c1_i32_2497
  let v5269 : BitVec 32 := Scalar.muli v5268 c1_i32_2497
  let v5270 : BitVec 32 := Scalar.addi c1_i32_2496 v5269
  let v5267 : BitVec 32 := Scalar.addi c1_i32_2496 v5266
  let c1_i32_2499 : BitVec 32 := 1#32
  ⟨v5270, v5267, c1_i32_2499⟩
def k0_mult63 (i : grid0.Coords) (k0_t9 : Fin (k0_t9_loop i).trips) : BitVec 32 :=
  let c1_i32_2496 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v5266 : BitVec 32 := Scalar.subi v220 c1_i32_2496
  let c1_i32_2497 : BitVec 32 := 1#32
  let v5268 : BitVec 32 := Scalar.divsi v5266 c1_i32_2497
  let v5269 : BitVec 32 := Scalar.muli v5268 c1_i32_2497
  let v5270 : BitVec 32 := Scalar.addi c1_i32_2496 v5269
  let c1_i32_2499 : BitVec 32 := 1#32
  let arg27 : BitVec 32 := Scf.iv v5270 c1_i32_2499 k0_t9
  let c512_i32_2501 : BitVec 32 := 512#32
  let v5280 : BitVec 32 := Scalar.muli arg27 c512_i32_2501
  v5280
def k0_off84 (i : grid0.Coords) (k0_t9 : Fin (k0_t9_loop i).trips) : Fin 2 → Nat :=
  let c0_2502 : Index := 0#32
  let c1_i32_2496 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v5266 : BitVec 32 := Scalar.subi v220 c1_i32_2496
  let c1_i32_2497 : BitVec 32 := 1#32
  let v5268 : BitVec 32 := Scalar.divsi v5266 c1_i32_2497
  let v5269 : BitVec 32 := Scalar.muli v5268 c1_i32_2497
  let v5270 : BitVec 32 := Scalar.addi c1_i32_2496 v5269
  let c1_i32_2499 : BitVec 32 := 1#32
  let arg27 : BitVec 32 := Scf.iv v5270 c1_i32_2499 k0_t9
  let c512_i32_2501 : BitVec 32 := 512#32
  let v5280 : BitVec 32 := Scalar.muli arg27 c512_i32_2501
  let v5281 : BitVec 32 := v5280
  let v5282 : Index := Scalar.indexCast v5281
  ![0, v5282.toNat]
@[reducible] def k0_t10_loop (i : grid0.Coords) : Scf.Loop 32 :=
  let c1_i32_1791 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v3939 : BitVec 32 := Scalar.subi v220 c1_i32_1791
  let c1_i32_1792 : BitVec 32 := 1#32
  let v3941 : BitVec 32 := Scalar.divsi v3939 c1_i32_1792
  let v3942 : BitVec 32 := Scalar.muli v3941 c1_i32_1792
  let v3943 : BitVec 32 := Scalar.addi c1_i32_1791 v3942
  let c1_i32_1793 : BitVec 32 := 1#32
  ⟨c1_i32_1791, v3943, c1_i32_1793⟩
def k0_mult64 (i : grid0.Coords) (k0_t10 : Fin (k0_t10_loop i).trips) : BitVec 32 :=
  let c1_i32_1791 : BitVec 32 := 1#32
  let c1_i32_1793 : BitVec 32 := 1#32
  let arg25 : BitVec 32 := Scf.iv c1_i32_1791 c1_i32_1793 k0_t10
  let c512_i32_2493 : BitVec 32 := 512#32
  let v5261 : BitVec 32 := Scalar.muli arg25 c512_i32_2493
  v5261
def k0_off85 (i : grid0.Coords) (k0_t10 : Fin (k0_t10_loop i).trips) (c0_i32_2494 : BitVec 32) : Fin 2 → Nat :=
  let c0_2495 : Index := 0#32
  let c1_i32_1791 : BitVec 32 := 1#32
  let c1_i32_1793 : BitVec 32 := 1#32
  let arg25 : BitVec 32 := Scf.iv c1_i32_1791 c1_i32_1793 k0_t10
  let c512_i32_2493 : BitVec 32 := 512#32
  let v5261 : BitVec 32 := Scalar.muli arg25 c512_i32_2493
  let v5262 : BitVec 32 := v5261
  let v5263 : BitVec 32 := Scalar.addi v5262 c0_i32_2494
  let v5264 : Index := Scalar.indexCast v5263
  ![0, v5264.toNat]
@[reducible] def k0_t11_loop (i : grid0.Coords) : Scf.Loop 32 :=
  let c1_i32_1791 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v3939 : BitVec 32 := Scalar.subi v220 c1_i32_1791
  let c1_i32_1792 : BitVec 32 := 1#32
  let v3941 : BitVec 32 := Scalar.divsi v3939 c1_i32_1792
  let v3942 : BitVec 32 := Scalar.muli v3941 c1_i32_1792
  let v3943 : BitVec 32 := Scalar.addi c1_i32_1791 v3942
  let v3940 : BitVec 32 := Scalar.addi c1_i32_1791 v3939
  let c1_i32_1794 : BitVec 32 := 1#32
  ⟨v3943, v3940, c1_i32_1794⟩
def k0_mult65 (i : grid0.Coords) (k0_t11 : Fin (k0_t11_loop i).trips) : BitVec 32 :=
  let c1_i32_1791 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v3939 : BitVec 32 := Scalar.subi v220 c1_i32_1791
  let c1_i32_1792 : BitVec 32 := 1#32
  let v3941 : BitVec 32 := Scalar.divsi v3939 c1_i32_1792
  let v3942 : BitVec 32 := Scalar.muli v3941 c1_i32_1792
  let v3943 : BitVec 32 := Scalar.addi c1_i32_1791 v3942
  let c1_i32_1794 : BitVec 32 := 1#32
  let arg25 : BitVec 32 := Scf.iv v3943 c1_i32_1794 k0_t11
  let c512_i32_2493 : BitVec 32 := 512#32
  let v5261 : BitVec 32 := Scalar.muli arg25 c512_i32_2493
  v5261
def k0_off86 (i : grid0.Coords) (k0_t11 : Fin (k0_t11_loop i).trips) (c0_i32_2494 : BitVec 32) : Fin 2 → Nat :=
  let c0_2495 : Index := 0#32
  let c1_i32_1791 : BitVec 32 := 1#32
  let arg1 : BitVec 32 := BitVec.ofNat 32 (i 1).val
  let c128_i32 : BitVec 32 := 128#32
  let v0 : BitVec 32 := Scalar.muli arg1 c128_i32
  let c512_i32_89 : BitVec 32 := 512#32
  let v200 : BitVec 32 := Scalar.addi v0 c512_i32_89
  let c128_i32_90 : BitVec 32 := 128#32
  let v201 : BitVec 32 := Scalar.addi v200 c128_i32_90
  let c512_i32_91 : BitVec 32 := 512#32
  let v202 : BitVec 32 := Scalar.addi v201 c512_i32_91
  let c1_i32_92 : BitVec 32 := 1#32
  let v203 : BitVec 32 := Scalar.subi v202 c1_i32_92
  let c0_i32_94 : BitVec 32 := 0#32
  let v205 : BitVec 1 := Scalar.cmpi .sgt v203 c0_i32_94
  let v206 : BitVec 32 := Scalar.extui v205
  let c0_i32_95 : BitVec 32 := 0#32
  let v207 : BitVec 1 := Scalar.cmpi .slt v203 c0_i32_95
  let v208 : BitVec 32 := Scalar.extui v207
  let v209 : BitVec 32 := Scalar.subi v206 v208
  let c512_i32_93 : BitVec 32 := 512#32
  let c0_i32_96 : BitVec 32 := 0#32
  let v210 : BitVec 1 := Scalar.cmpi .sgt c512_i32_93 c0_i32_96
  let v211 : BitVec 32 := Scalar.extui v210
  let c0_i32_97 : BitVec 32 := 0#32
  let v212 : BitVec 1 := Scalar.cmpi .slt c512_i32_93 c0_i32_97
  let v213 : BitVec 32 := Scalar.extui v212
  let v214 : BitVec 32 := Scalar.subi v211 v213
  let v215 : BitVec 1 := Scalar.cmpi .ne v209 v214
  let v216 : BitVec 32 := Scalar.remsi v203 c512_i32_93
  let c0_i32_98 : BitVec 32 := 0#32
  let v217 : BitVec 1 := Scalar.cmpi .ne v216 c0_i32_98
  let v218 : BitVec 1 := Scalar.andi v215 v217
  let v204 : BitVec 32 := Scalar.divsi v203 c512_i32_93
  let c1_i32_99 : BitVec 32 := 1#32
  let v219 : BitVec 32 := Scalar.subi v204 c1_i32_99
  let v220 : BitVec 32 := Scalar.select v218 v219 v204
  let v3939 : BitVec 32 := Scalar.subi v220 c1_i32_1791
  let c1_i32_1792 : BitVec 32 := 1#32
  let v3941 : BitVec 32 := Scalar.divsi v3939 c1_i32_1792
  let v3942 : BitVec 32 := Scalar.muli v3941 c1_i32_1792
  let v3943 : BitVec 32 := Scalar.addi c1_i32_1791 v3942
  let c1_i32_1794 : BitVec 32 := 1#32
  let arg25 : BitVec 32 := Scf.iv v3943 c1_i32_1794 k0_t11
  let c512_i32_2493 : BitVec 32 := 512#32
  let v5261 : BitVec 32 := Scalar.muli arg25 c512_i32_2493
  let v5262 : BitVec 32 := v5261
  let v5263 : BitVec 32 := Scalar.addi v5262 c0_i32_2494
  let v5264 : Index := Scalar.indexCast v5263
  ![0, v5264.toNat]
def k0_mult66 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1804 : BitVec 32 := 512#32
  let v3956 : BitVec 32 := Scalar.subi v412 c512_i32_1804
  v3956
def k0_off87 (i : grid0.Coords) : Fin 2 → Nat :=
  let c0_1805 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1804 : BitVec 32 := 512#32
  let v3956 : BitVec 32 := Scalar.subi v412 c512_i32_1804
  let v3957 : BitVec 32 := v3956
  let v3958 : Index := Scalar.indexCast v3957
  ![0, v3958.toNat]
def k0_off88 (i : grid0.Coords) : Fin 3 → Nat :=
  let c0_1810 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1804 : BitVec 32 := 512#32
  let v3956 : BitVec 32 := Scalar.subi v412 c512_i32_1804
  let v3957 : BitVec 32 := v3956
  let v3968 : Index := Scalar.indexCast v3957
  let c0_1811 : Index := 0#32
  ![0, v3968.toNat, 0]
@[reducible] def k0_t12_loop (i : grid0.Coords) : Scf.Loop 32 :=
  let c0_i32_1595 : BitVec 32 := 0#32
  let arg1 : BitVec 32 := BitVec.ofNat 32 (i 1).val
  let c128_i32 : BitVec 32 := 128#32
  let v0 : BitVec 32 := Scalar.muli arg1 c128_i32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1597 : BitVec 32 := 1#32
  ⟨c0_i32_1595, v3722, c1_i32_1597⟩
def k0_mult67 (i : grid0.Coords) (k0_t12 : Fin (k0_t12_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1789 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_1786 : BitVec 32 := 1#32
  let v3931 : BitVec 32 := Scalar.addi v3930 c1_i32_1786
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1787 : BitVec 32 := 1#32
  let v3932 : BitVec 32 := Scalar.subi v432 c1_i32_1787
  let v3933 : BitVec 32 := Scalar.minsi v3931 v3932
  let c1_i32_1788 : BitVec 32 := 1#32
  let v3934 : BitVec 32 := Scalar.addi v3933 c1_i32_1788
  let v3935 : BitVec 32 := Scalar.muli c512_i32_1789 v3934
  let v3936 : BitVec 32 := Scalar.subi v412 v3935
  v3936
def k0_off89 (i : grid0.Coords) (k0_t12 : Fin (k0_t12_loop i).trips) : Fin 3 → Nat :=
  let c0_1790 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1789 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_1786 : BitVec 32 := 1#32
  let v3931 : BitVec 32 := Scalar.addi v3930 c1_i32_1786
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1787 : BitVec 32 := 1#32
  let v3932 : BitVec 32 := Scalar.subi v432 c1_i32_1787
  let v3933 : BitVec 32 := Scalar.minsi v3931 v3932
  let c1_i32_1788 : BitVec 32 := 1#32
  let v3934 : BitVec 32 := Scalar.addi v3933 c1_i32_1788
  let v3935 : BitVec 32 := Scalar.muli c512_i32_1789 v3934
  let v3936 : BitVec 32 := Scalar.subi v412 v3935
  let v3937 : BitVec 32 := v3936
  let v3938 : Index := Scalar.indexCast v3937
  let c0_1791 : Index := 0#32
  ![0, v3938.toNat, 0]
def k0_mult68 (i : grid0.Coords) (k0_t12 : Fin (k0_t12_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1798 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_1797 : BitVec 32 := 1#32
  let v3946 : BitVec 32 := Scalar.addi v3930 c1_i32_1797
  let v3947 : BitVec 32 := Scalar.muli c512_i32_1798 v3946
  let v3948 : BitVec 32 := Scalar.subi v412 v3947
  v3948
def k0_off90 (i : grid0.Coords) (k0_t12 : Fin (k0_t12_loop i).trips) : Fin 2 → Nat :=
  let c0_1799 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1798 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_1797 : BitVec 32 := 1#32
  let v3946 : BitVec 32 := Scalar.addi v3930 c1_i32_1797
  let v3947 : BitVec 32 := Scalar.muli c512_i32_1798 v3946
  let v3948 : BitVec 32 := Scalar.subi v412 v3947
  let v3949 : BitVec 32 := v3948
  let v3950 : Index := Scalar.indexCast v3949
  ![0, v3950.toNat]
def k0_off91 (i : grid0.Coords) (k0_t12 : Fin (k0_t12_loop i).trips) : Fin 3 → Nat :=
  let c0_1804 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1798 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_1797 : BitVec 32 := 1#32
  let v3946 : BitVec 32 := Scalar.addi v3930 c1_i32_1797
  let v3947 : BitVec 32 := Scalar.muli c512_i32_1798 v3946
  let v3948 : BitVec 32 := Scalar.subi v412 v3947
  let v3949 : BitVec 32 := v3948
  let v3960 : Index := Scalar.indexCast v3949
  let c0_1805 : Index := 0#32
  ![0, v3960.toNat, 0]
def k0_mult69 (i : grid0.Coords) (k0_t12 : Fin (k0_t12_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2395 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2392 : BitVec 32 := 1#32
  let v5062 : BitVec 32 := Scalar.addi v5061 c1_i32_2392
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_2393 : BitVec 32 := 1#32
  let v5063 : BitVec 32 := Scalar.subi v432 c1_i32_2393
  let v5064 : BitVec 32 := Scalar.minsi v5062 v5063
  let c1_i32_2394 : BitVec 32 := 1#32
  let v5065 : BitVec 32 := Scalar.addi v5064 c1_i32_2394
  let v5066 : BitVec 32 := Scalar.muli c512_i32_2395 v5065
  let v5067 : BitVec 32 := Scalar.subi v412 v5066
  v5067
def k0_off92 (i : grid0.Coords) (k0_t12 : Fin (k0_t12_loop i).trips) : Fin 3 → Nat :=
  let c0_2396 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2395 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2392 : BitVec 32 := 1#32
  let v5062 : BitVec 32 := Scalar.addi v5061 c1_i32_2392
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_2393 : BitVec 32 := 1#32
  let v5063 : BitVec 32 := Scalar.subi v432 c1_i32_2393
  let v5064 : BitVec 32 := Scalar.minsi v5062 v5063
  let c1_i32_2394 : BitVec 32 := 1#32
  let v5065 : BitVec 32 := Scalar.addi v5064 c1_i32_2394
  let v5066 : BitVec 32 := Scalar.muli c512_i32_2395 v5065
  let v5067 : BitVec 32 := Scalar.subi v412 v5066
  let v5068 : BitVec 32 := v5067
  let v5069 : Index := Scalar.indexCast v5068
  let c0_2397 : Index := 0#32
  ![0, v5069.toNat, 0]
def k0_mult70 (i : grid0.Coords) (k0_t12 : Fin (k0_t12_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2404 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2403 : BitVec 32 := 1#32
  let v5077 : BitVec 32 := Scalar.addi v5061 c1_i32_2403
  let v5078 : BitVec 32 := Scalar.muli c512_i32_2404 v5077
  let v5079 : BitVec 32 := Scalar.subi v412 v5078
  v5079
def k0_off93 (i : grid0.Coords) (k0_t12 : Fin (k0_t12_loop i).trips) : Fin 2 → Nat :=
  let c0_2405 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2404 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2403 : BitVec 32 := 1#32
  let v5077 : BitVec 32 := Scalar.addi v5061 c1_i32_2403
  let v5078 : BitVec 32 := Scalar.muli c512_i32_2404 v5077
  let v5079 : BitVec 32 := Scalar.subi v412 v5078
  let v5080 : BitVec 32 := v5079
  let v5081 : Index := Scalar.indexCast v5080
  ![0, v5081.toNat]
def k0_off94 (i : grid0.Coords) (k0_t12 : Fin (k0_t12_loop i).trips) : Fin 3 → Nat :=
  let c0_2410 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2404 : BitVec 32 := 512#32
  let c2_i32_1784 : BitVec 32 := 2#32
  let c0_i32_1595 : BitVec 32 := 0#32
  let c1_i32_1597 : BitVec 32 := 1#32
  let arg25 : BitVec 32 := Scf.iv c0_i32_1595 c1_i32_1597 k0_t12
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2403 : BitVec 32 := 1#32
  let v5077 : BitVec 32 := Scalar.addi v5061 c1_i32_2403
  let v5078 : BitVec 32 := Scalar.muli c512_i32_2404 v5077
  let v5079 : BitVec 32 := Scalar.subi v412 v5078
  let v5080 : BitVec 32 := v5079
  let v5091 : Index := Scalar.indexCast v5080
  let c0_2411 : Index := 0#32
  ![0, v5091.toNat, 0]
@[reducible] def k0_t13_loop (i : grid0.Coords) : Scf.Loop 32 :=
  let c0_i32_1595 : BitVec 32 := 0#32
  let arg1 : BitVec 32 := BitVec.ofNat 32 (i 1).val
  let c128_i32 : BitVec 32 := 128#32
  let v0 : BitVec 32 := Scalar.muli arg1 c128_i32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let v3719 : BitVec 32 := Scalar.addi c0_i32_1595 v3718
  let c1_i32_1598 : BitVec 32 := 1#32
  ⟨v3722, v3719, c1_i32_1598⟩
def k0_mult71 (i : grid0.Coords) (k0_t13 : Fin (k0_t13_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1789 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_1786 : BitVec 32 := 1#32
  let v3931 : BitVec 32 := Scalar.addi v3930 c1_i32_1786
  let c1_i32_1787 : BitVec 32 := 1#32
  let v3932 : BitVec 32 := Scalar.subi v432 c1_i32_1787
  let v3933 : BitVec 32 := Scalar.minsi v3931 v3932
  let c1_i32_1788 : BitVec 32 := 1#32
  let v3934 : BitVec 32 := Scalar.addi v3933 c1_i32_1788
  let v3935 : BitVec 32 := Scalar.muli c512_i32_1789 v3934
  let v3936 : BitVec 32 := Scalar.subi v412 v3935
  v3936
def k0_off95 (i : grid0.Coords) (k0_t13 : Fin (k0_t13_loop i).trips) : Fin 3 → Nat :=
  let c0_1790 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1789 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_1786 : BitVec 32 := 1#32
  let v3931 : BitVec 32 := Scalar.addi v3930 c1_i32_1786
  let c1_i32_1787 : BitVec 32 := 1#32
  let v3932 : BitVec 32 := Scalar.subi v432 c1_i32_1787
  let v3933 : BitVec 32 := Scalar.minsi v3931 v3932
  let c1_i32_1788 : BitVec 32 := 1#32
  let v3934 : BitVec 32 := Scalar.addi v3933 c1_i32_1788
  let v3935 : BitVec 32 := Scalar.muli c512_i32_1789 v3934
  let v3936 : BitVec 32 := Scalar.subi v412 v3935
  let v3937 : BitVec 32 := v3936
  let v3938 : Index := Scalar.indexCast v3937
  let c0_1791 : Index := 0#32
  ![0, v3938.toNat, 0]
def k0_mult72 (i : grid0.Coords) (k0_t13 : Fin (k0_t13_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1798 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_1797 : BitVec 32 := 1#32
  let v3946 : BitVec 32 := Scalar.addi v3930 c1_i32_1797
  let v3947 : BitVec 32 := Scalar.muli c512_i32_1798 v3946
  let v3948 : BitVec 32 := Scalar.subi v412 v3947
  v3948
def k0_off96 (i : grid0.Coords) (k0_t13 : Fin (k0_t13_loop i).trips) : Fin 2 → Nat :=
  let c0_1799 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1798 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_1797 : BitVec 32 := 1#32
  let v3946 : BitVec 32 := Scalar.addi v3930 c1_i32_1797
  let v3947 : BitVec 32 := Scalar.muli c512_i32_1798 v3946
  let v3948 : BitVec 32 := Scalar.subi v412 v3947
  let v3949 : BitVec 32 := v3948
  let v3950 : Index := Scalar.indexCast v3949
  ![0, v3950.toNat]
def k0_off97 (i : grid0.Coords) (k0_t13 : Fin (k0_t13_loop i).trips) : Fin 3 → Nat :=
  let c0_1804 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1798 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_1797 : BitVec 32 := 1#32
  let v3946 : BitVec 32 := Scalar.addi v3930 c1_i32_1797
  let v3947 : BitVec 32 := Scalar.muli c512_i32_1798 v3946
  let v3948 : BitVec 32 := Scalar.subi v412 v3947
  let v3949 : BitVec 32 := v3948
  let v3960 : Index := Scalar.indexCast v3949
  let c0_1805 : Index := 0#32
  ![0, v3960.toNat, 0]
def k0_mult73 (i : grid0.Coords) (k0_t13 : Fin (k0_t13_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2395 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2392 : BitVec 32 := 1#32
  let v5062 : BitVec 32 := Scalar.addi v5061 c1_i32_2392
  let c1_i32_2393 : BitVec 32 := 1#32
  let v5063 : BitVec 32 := Scalar.subi v432 c1_i32_2393
  let v5064 : BitVec 32 := Scalar.minsi v5062 v5063
  let c1_i32_2394 : BitVec 32 := 1#32
  let v5065 : BitVec 32 := Scalar.addi v5064 c1_i32_2394
  let v5066 : BitVec 32 := Scalar.muli c512_i32_2395 v5065
  let v5067 : BitVec 32 := Scalar.subi v412 v5066
  v5067
def k0_off98 (i : grid0.Coords) (k0_t13 : Fin (k0_t13_loop i).trips) : Fin 3 → Nat :=
  let c0_2396 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2395 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2392 : BitVec 32 := 1#32
  let v5062 : BitVec 32 := Scalar.addi v5061 c1_i32_2392
  let c1_i32_2393 : BitVec 32 := 1#32
  let v5063 : BitVec 32 := Scalar.subi v432 c1_i32_2393
  let v5064 : BitVec 32 := Scalar.minsi v5062 v5063
  let c1_i32_2394 : BitVec 32 := 1#32
  let v5065 : BitVec 32 := Scalar.addi v5064 c1_i32_2394
  let v5066 : BitVec 32 := Scalar.muli c512_i32_2395 v5065
  let v5067 : BitVec 32 := Scalar.subi v412 v5066
  let v5068 : BitVec 32 := v5067
  let v5069 : Index := Scalar.indexCast v5068
  let c0_2397 : Index := 0#32
  ![0, v5069.toNat, 0]
def k0_mult74 (i : grid0.Coords) (k0_t13 : Fin (k0_t13_loop i).trips) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2404 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2403 : BitVec 32 := 1#32
  let v5077 : BitVec 32 := Scalar.addi v5061 c1_i32_2403
  let v5078 : BitVec 32 := Scalar.muli c512_i32_2404 v5077
  let v5079 : BitVec 32 := Scalar.subi v412 v5078
  v5079
def k0_off99 (i : grid0.Coords) (k0_t13 : Fin (k0_t13_loop i).trips) : Fin 2 → Nat :=
  let c0_2405 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2404 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2403 : BitVec 32 := 1#32
  let v5077 : BitVec 32 := Scalar.addi v5061 c1_i32_2403
  let v5078 : BitVec 32 := Scalar.muli c512_i32_2404 v5077
  let v5079 : BitVec 32 := Scalar.subi v412 v5078
  let v5080 : BitVec 32 := v5079
  let v5081 : Index := Scalar.indexCast v5080
  ![0, v5081.toNat]
def k0_off100 (i : grid0.Coords) (k0_t13 : Fin (k0_t13_loop i).trips) : Fin 3 → Nat :=
  let c0_2410 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_2404 : BitVec 32 := 512#32
  let c2_i32_1784 : BitVec 32 := 2#32
  let c0_i32_1595 : BitVec 32 := 0#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1586 : BitVec 32 := 1#32
  let v3700 : BitVec 32 := Scalar.subi v432 c1_i32_1586
  let c0_i32_1588 : BitVec 32 := 0#32
  let v3702 : BitVec 1 := Scalar.cmpi .sgt v3700 c0_i32_1588
  let v3703 : BitVec 32 := Scalar.extui v3702
  let c0_i32_1589 : BitVec 32 := 0#32
  let v3704 : BitVec 1 := Scalar.cmpi .slt v3700 c0_i32_1589
  let v3705 : BitVec 32 := Scalar.extui v3704
  let v3706 : BitVec 32 := Scalar.subi v3703 v3705
  let c2_i32_1587 : BitVec 32 := 2#32
  let c0_i32_1590 : BitVec 32 := 0#32
  let v3707 : BitVec 1 := Scalar.cmpi .sgt c2_i32_1587 c0_i32_1590
  let v3708 : BitVec 32 := Scalar.extui v3707
  let c0_i32_1591 : BitVec 32 := 0#32
  let v3709 : BitVec 1 := Scalar.cmpi .slt c2_i32_1587 c0_i32_1591
  let v3710 : BitVec 32 := Scalar.extui v3709
  let v3711 : BitVec 32 := Scalar.subi v3708 v3710
  let v3712 : BitVec 1 := Scalar.cmpi .ne v3706 v3711
  let v3713 : BitVec 32 := Scalar.remsi v3700 c2_i32_1587
  let c0_i32_1592 : BitVec 32 := 0#32
  let v3714 : BitVec 1 := Scalar.cmpi .ne v3713 c0_i32_1592
  let v3715 : BitVec 1 := Scalar.andi v3712 v3714
  let v3701 : BitVec 32 := Scalar.divsi v3700 c2_i32_1587
  let c1_i32_1593 : BitVec 32 := 1#32
  let v3716 : BitVec 32 := Scalar.subi v3701 c1_i32_1593
  let v3717 : BitVec 32 := Scalar.select v3715 v3716 v3701
  let v3718 : BitVec 32 := Scalar.subi v3717 c0_i32_1595
  let c1_i32_1596 : BitVec 32 := 1#32
  let v3720 : BitVec 32 := Scalar.divsi v3718 c1_i32_1596
  let v3721 : BitVec 32 := Scalar.muli v3720 c1_i32_1596
  let v3722 : BitVec 32 := Scalar.addi c0_i32_1595 v3721
  let c1_i32_1598 : BitVec 32 := 1#32
  let arg25 : BitVec 32 := Scf.iv v3722 c1_i32_1598 k0_t13
  let v3929 : BitVec 32 := Scalar.muli c2_i32_1784 arg25
  let c1_i32_1785 : BitVec 32 := 1#32
  let v3930 : BitVec 32 := Scalar.addi v3929 c1_i32_1785
  let c1_i32_2391 : BitVec 32 := 1#32
  let v5061 : BitVec 32 := Scalar.addi v3930 c1_i32_2391
  let c1_i32_2403 : BitVec 32 := 1#32
  let v5077 : BitVec 32 := Scalar.addi v5061 c1_i32_2403
  let v5078 : BitVec 32 := Scalar.muli c512_i32_2404 v5077
  let v5079 : BitVec 32 := Scalar.subi v412 v5078
  let v5080 : BitVec 32 := v5079
  let v5091 : Index := Scalar.indexCast v5080
  let c0_2411 : Index := 0#32
  ![0, v5091.toNat, 0]
def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1599 : BitVec 32 := 1#32
  let v3723 : BitVec 32 := Scalar.subi v432 c1_i32_1599
  let c2_i32_1600 : BitVec 32 := 2#32
  let c0_i32_1601 : BitVec 32 := 0#32
  let v3724 : BitVec 1 := Scalar.cmpi .eq c2_i32_1600 c0_i32_1601
  let c1_i32_1602 : BitVec 32 := 1#32
  let v3725 : BitVec 32 := Scalar.select v3724 c1_i32_1602 c2_i32_1600
  let v3726 : BitVec 32 := Scalar.remsi v3723 v3725
  let c0_i32_1604 : BitVec 32 := 0#32
  let v3728 : BitVec 1 := Scalar.cmpi .slt v3726 c0_i32_1604
  let c0_i32_1605 : BitVec 32 := 0#32
  let v3729 : BitVec 1 := Scalar.cmpi .slt v3725 c0_i32_1605
  let v3730 : BitVec 1 := Scalar.xori v3728 v3729
  let c0_i32_1603 : BitVec 32 := 0#32
  let v3727 : BitVec 1 := Scalar.cmpi .ne v3726 c0_i32_1603
  let v3731 : BitVec 1 := Scalar.andi v3730 v3727
  let v3732 : BitVec 32 := Scalar.addi v3726 v3725
  let v3733 : BitVec 32 := Scalar.select v3731 v3732 v3726
  let c1_i32_1606 : BitVec 32 := 1#32
  let v3734 : BitVec 1 := Scalar.cmpi .eq v3733 c1_i32_1606
  let v3735 : BitVec 32 := Scalar.extui v3734
  let c0_i32_1607 : BitVec 32 := 0#32
  let v3736 : BitVec 1 := Scalar.cmpi .ne v3735 c0_i32_1607
  v3736

def k0_mult75 (i : grid0.Coords) : BitVec 32 :=
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1786 : BitVec 32 := 512#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1784 : BitVec 32 := 1#32
  let v3929 : BitVec 32 := Scalar.subi v432 c1_i32_1784
  let c1_i32_1785 : BitVec 32 := 1#32
  let v3930 : BitVec 32 := Scalar.addi v3929 c1_i32_1785
  let v3931 : BitVec 32 := Scalar.muli c512_i32_1786 v3930
  let v3932 : BitVec 32 := Scalar.subi v412 v3931
  v3932
def k0_off101 (i : grid0.Coords) : Fin 2 → Nat :=
  let c0_1787 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1786 : BitVec 32 := 512#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1784 : BitVec 32 := 1#32
  let v3929 : BitVec 32 := Scalar.subi v432 c1_i32_1784
  let c1_i32_1785 : BitVec 32 := 1#32
  let v3930 : BitVec 32 := Scalar.addi v3929 c1_i32_1785
  let v3931 : BitVec 32 := Scalar.muli c512_i32_1786 v3930
  let v3932 : BitVec 32 := Scalar.subi v412 v3931
  let v3933 : BitVec 32 := v3932
  let v3934 : Index := Scalar.indexCast v3933
  ![0, v3934.toNat]
def k0_off102 (i : grid0.Coords) : Fin 3 → Nat :=
  let c0_1792 : Index := 0#32
  let arg1 : BitVec 32 := BitVec.ofNat 32 (i 1).val
  let c128_i32 : BitVec 32 := 128#32
  let v0 : BitVec 32 := Scalar.muli arg1 c128_i32
  let c512_i32_192 : BitVec 32 := 512#32
  let v411 : BitVec 32 := Scalar.addi v0 c512_i32_192
  let c128_i32_193 : BitVec 32 := 128#32
  let v412 : BitVec 32 := Scalar.addi v411 c128_i32_193
  let c512_i32_1786 : BitVec 32 := 512#32
  let c128_i32_194 : BitVec 32 := 128#32
  let v413 : BitVec 32 := Scalar.addi v0 c128_i32_194
  let c512_i32_195 : BitVec 32 := 512#32
  let v414 : BitVec 32 := Scalar.addi v413 c512_i32_195
  let c1_i32_196 : BitVec 32 := 1#32
  let v415 : BitVec 32 := Scalar.subi v414 c1_i32_196
  let c0_i32_198 : BitVec 32 := 0#32
  let v417 : BitVec 1 := Scalar.cmpi .sgt v415 c0_i32_198
  let v418 : BitVec 32 := Scalar.extui v417
  let c0_i32_199 : BitVec 32 := 0#32
  let v419 : BitVec 1 := Scalar.cmpi .slt v415 c0_i32_199
  let v420 : BitVec 32 := Scalar.extui v419
  let v421 : BitVec 32 := Scalar.subi v418 v420
  let c512_i32_197 : BitVec 32 := 512#32
  let c0_i32_200 : BitVec 32 := 0#32
  let v422 : BitVec 1 := Scalar.cmpi .sgt c512_i32_197 c0_i32_200
  let v423 : BitVec 32 := Scalar.extui v422
  let c0_i32_201 : BitVec 32 := 0#32
  let v424 : BitVec 1 := Scalar.cmpi .slt c512_i32_197 c0_i32_201
  let v425 : BitVec 32 := Scalar.extui v424
  let v426 : BitVec 32 := Scalar.subi v423 v425
  let v427 : BitVec 1 := Scalar.cmpi .ne v421 v426
  let v428 : BitVec 32 := Scalar.remsi v415 c512_i32_197
  let c0_i32_202 : BitVec 32 := 0#32
  let v429 : BitVec 1 := Scalar.cmpi .ne v428 c0_i32_202
  let v430 : BitVec 1 := Scalar.andi v427 v429
  let v416 : BitVec 32 := Scalar.divsi v415 c512_i32_197
  let c1_i32_203 : BitVec 32 := 1#32
  let v431 : BitVec 32 := Scalar.subi v416 c1_i32_203
  let v432 : BitVec 32 := Scalar.select v430 v431 v416
  let c1_i32_1784 : BitVec 32 := 1#32
  let v3929 : BitVec 32 := Scalar.subi v432 c1_i32_1784
  let c1_i32_1785 : BitVec 32 := 1#32
  let v3930 : BitVec 32 := Scalar.addi v3929 c1_i32_1785
  let v3931 : BitVec 32 := Scalar.muli c512_i32_1786 v3930
  let v3932 : BitVec 32 := Scalar.subi v412 v3931
  let v3933 : BitVec 32 := v3932
  let v3944 : Index := Scalar.indexCast v3933
  let c0_1793 : Index := 0#32
  ![0, v3944.toNat, 0]
def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c3_i32 : BitVec 32 := 3#32
  let c0_i32 : BitVec 32 := 0#32
  ![v1.toNat, c3_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c4_i32 : BitVec 32 := 4#32
  let c0_i32 : BitVec 32 := 0#32
  ![v1.toNat, c4_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8704x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8704x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S16x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2.lean ====
abbrev S16384x2048 : Shape := ⟨2, ![16384, 2048]⟩
abbrev S2048 : Shape := ⟨1, ![2048]⟩
abbrev S2048x14752 : Shape := ⟨2, ![2048, 14752]⟩
abbrev S2048x6144 : Shape := ⟨2, ![2048, 6144]⟩
abbrev S2048x2048 : Shape := ⟨2, ![2048, 2048]⟩
abbrev S2048x4096 : Shape := ⟨2, ![2048, 4096]⟩
abbrev S2048x14336 : Shape := ⟨2, ![2048, 14336]⟩
abbrev S1x2048 : Shape := ⟨2, ![1, 2048]⟩
abbrev S16384x14336 : Shape := ⟨2, ![16384, 14336]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 11
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14752, .f32⟩
  | .hbm, ⟨3, _⟩ => ⟨S2048x6144, .f32⟩
  | .hbm, ⟨4, _⟩ => ⟨S2048x2048, .f32⟩
  | .hbm, ⟨5, _⟩ => ⟨S2048x2048, .f32⟩
  | .hbm, ⟨6, _⟩ => ⟨S2048x4096, .f32⟩
  | .hbm, ⟨7, _⟩ => ⟨S2048x14336, .f32⟩
  | .hbm, ⟨8, _⟩ => ⟨S2048x14336, .bf16⟩
  | .hbm, ⟨9, _⟩ => ⟨S1x2048, .f32⟩
  | .hbm, ⟨10, _⟩ => ⟨S16384x14336, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S2048 : Shape := ⟨1, ![2048]⟩
abbrev S2048x14752 : Shape := ⟨2, ![2048, 14752]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x14752 : Shape := ⟨2, ![16384, 14752]⟩
abbrev S16384x1024 : Shape := ⟨2, ![16384, 1024]⟩
abbrev S16384x16 : Shape := ⟨2, ![16384, 16]⟩
abbrev S16384x256 : Shape := ⟨2, ![16384, 256]⟩
abbrev S16384x128 : Shape := ⟨2, ![16384, 128]⟩
abbrev S16384x14336 : Shape := ⟨2, ![16384, 14336]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14752, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x14752, .f32⟩
  | .hbm, ⟨20, _⟩ => ⟨S16384x1024, .f32⟩
  | .hbm, ⟨21, _⟩ => ⟨S16384x1024, .f32⟩
  | .hbm, ⟨22, _⟩ => ⟨S16384x2048, .f32⟩
  | .hbm, ⟨23, _⟩ => ⟨S16384x2048, .f32⟩
  | .hbm, ⟨24, _⟩ => ⟨S16384x16, .f32⟩
  | .hbm, ⟨25, _⟩ => ⟨S16384x2048, .f32⟩
  | .hbm, ⟨26, _⟩ => ⟨S16384x256, .f32⟩
  | .hbm, ⟨27, _⟩ => ⟨S16384x2048, .f32⟩
  | .hbm, ⟨28, _⟩ => ⟨S16384x128, .f32⟩
  | .hbm, ⟨29, _⟩ => ⟨S16384x16, .f32⟩
  | .hbm, ⟨30, _⟩ => ⟨S16384x2048, .f32⟩
  | .hbm, ⟨31, _⟩ => ⟨S16384x2048, .f32⟩
  | .hbm, ⟨32, _⟩ => ⟨S16384x14336, .f32⟩
  | .hbm, ⟨33, _⟩ => ⟨S16384x14336, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S1x2048, .f32⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5632 : Shape := ⟨2, ![16384, 5632]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5632, .f32⟩
  | .hbm, ⟨23, _⟩ => ⟨S16384x5632, .f32⟩
  | .hbm, ⟨24, _⟩ => ⟨S16384x5632, .f32⟩
  | .hbm, ⟨25, _⟩ => ⟨S_, .f32⟩
  | .hbm, ⟨26, _⟩ => ⟨S16384x5632, .f32⟩
  | .hbm, ⟨27, _⟩ => ⟨S16384x5632, .f32⟩
  | .hbm, ⟨28, _⟩ => ⟨S_, .f32⟩
  | .hbm, ⟨29, _⟩ => ⟨S16384x5632, .f32⟩
  | .hbm, ⟨30, _⟩ => ⟨S16384x5632, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel4.lean ====
abbrev S16384x2048 : Shape := ⟨2, ![16384, 2048]⟩
abbrev S16384x14336 : Shape := ⟨2, ![16384, 14336]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x14336, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S16384x2048, .f32⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S16384x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S2048x2048, .bf16⟩
  | .local _ .vmem, ⟨10, _⟩ => ⟨S2048x2048, .bf16⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x2048 : Shape := ⟨2, ![16384, 2048]⟩
abbrev S16384x14336 : Shape := ⟨2, ![16384, 14336]⟩
abbrev S2048x2048 : Shape := ⟨2, ![2048, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x14336, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x14336, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x2048, .f32⟩
  | .hbm, ⟨47, _⟩ => ⟨S16384x2048, .f32⟩
  | .hbm, ⟨48, _⟩ => ⟨S1x2048, .f32⟩
  | .hbm, ⟨49, _⟩ => ⟨S16384x2048, .f32⟩
  | .hbm, ⟨50, _⟩ => ⟨S16384x2048, .f32⟩
  | .hbm, ⟨51, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x2048 : Shape := ⟨2, ![2048, 2048]⟩
abbrev S2x256x4096 : Shape := ⟨3, ![2, 256, 4096]⟩
abbrev S1x2048 : Shape := ⟨2, ![1, 2048]⟩
abbrev S512x2048 : Shape := ⟨2, ![512, 2048]⟩
abbrev S1x256x2048 : Shape := ⟨3, ![1, 256, 2048]⟩
abbrev S512 : Shape := ⟨1, ![512]⟩
abbrev S512x1 : Shape := ⟨2, ![512, 1]⟩
abbrev S512x512 : Shape := ⟨2, ![512, 512]⟩
abbrev S256x2048 : Shape := ⟨2, ![256, 2048]⟩
abbrev S256x512 : Shape := ⟨2, ![256, 512]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2x256x4096, .bf16⟩
  | .hbm, ⟨4, _⟩ => ⟨S2048x2048, .f32⟩
  | .hbm, ⟨5, _⟩ => ⟨S2048, .f32⟩
  | .hbm, ⟨6, _⟩ => ⟨S1x2048, .f32⟩
  | .hbm, ⟨7, _⟩ => ⟨S2048x2048, .bf16⟩
  | .hbm, ⟨8, _⟩ => ⟨S2048x2048, .bf16⟩
  | .hbm, ⟨9, _⟩ => ⟨S1x2048, .f32⟩
  | .hbm, ⟨10, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S16384x2048 : Shape := ⟨2, ![16384, 2048]⟩
abbrev S2048 : Shape := ⟨1, ![2048]⟩
abbrev S2048x2048 : Shape := ⟨2, ![2048, 2048]⟩
abbrev S2x256x4096 : Shape := ⟨3, ![2, 256, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2x8192x4x512 : Shape := ⟨4, ![2, 8192, 4, 512]⟩
abbrev S2x256x2048 : Shape := ⟨3, ![2, 256, 2048]⟩
abbrev S2x256x4x512 : Shape := ⟨4, ![2, 256, 4, 512]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x512x8192 : Shape := ⟨4, ![2, 4, 512, 8192]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2048, .f32⟩
  | .hbm, ⟨3, _⟩ => ⟨S2x256x4096, .bf16⟩
  | .hbm, ⟨4, _⟩ => ⟨S2048x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x2048, .f32⟩
  | .hbm, ⟨23, _⟩ => ⟨S2x8192x4x512, .f32⟩
  | .hbm, ⟨24, _⟩ => ⟨S2x256x4096, .f32⟩
  | .hbm, ⟨25, _⟩ => ⟨S2x256x2048, .f32⟩
  | .hbm, ⟨26, _⟩ => ⟨S2x256x2048, .f32⟩
  | .hbm, ⟨27, _⟩ => ⟨S2x256x4x512, .f32⟩
  | .hbm, ⟨28, _⟩ => ⟨S2x256x4x512, .f32⟩
  | .hbm, ⟨29, _⟩ => ⟨S2x4x8192x256, .f32⟩
  | .hbm, ⟨30, _⟩ => ⟨S_, .f32⟩
  | .hbm, ⟨31, _⟩ => ⟨S2x4x8192x256, .f32⟩
  | .hbm, ⟨32, _⟩ => ⟨S2x4x8192x256, .f32⟩
  | .hbm, ⟨33, _⟩ => ⟨S_, .f32⟩
  | .hbm, ⟨34, _⟩ => ⟨S2x4x8192, .f32⟩
  | .hbm, ⟨35, _⟩ => ⟨S_, .f32⟩
  | .hbm, ⟨36, _⟩ => ⟨S2x4x8192, .f32⟩
  | .hbm, ⟨37, _⟩ => ⟨S2x4x8192, .f32⟩
  | .hbm, ⟨38, _⟩ => ⟨S2x4x8192x1, .f32⟩
  | .hbm, ⟨39, _⟩ => ⟨S2x4x8192x256, .f32⟩
  | .hbm, ⟨40, _⟩ => ⟨S2x4x8192x256, .f32⟩
  | .hbm, ⟨41, _⟩ => ⟨S2x4x8192x256, .f32⟩
  | .hbm, ⟨42, _⟩ => ⟨S_, .f32⟩
  | .hbm, ⟨43, _⟩ => ⟨S2x4x8192, .f32⟩
  | .hbm, ⟨44, _⟩ => ⟨S2x4x8192x1, .f32⟩
  | .hbm, ⟨45, _⟩ => ⟨S2x4x8192x256, .f32⟩
  | .hbm, ⟨46, _⟩ => ⟨S2x4x8192x256, .f32⟩
  | .hbm, ⟨47, _⟩ => ⟨S2x4x512x8192, .f32⟩
  | .hbm, ⟨48, _⟩ => ⟨S2x8192x4x512, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x2048, .f32⟩
  | .hbm, ⟨63, _⟩ => ⟨S16384x2048, .f32⟩
  | .hbm, ⟨64, _⟩ => ⟨S1x2048, .f32⟩
  | .hbm, ⟨65, _⟩ => ⟨S16384x2048, .f32⟩
  | .hbm, ⟨66, _⟩ => ⟨S16384x2048, .f32⟩
  | .hbm, ⟨67, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel6.lean ====
abbrev S2x256x2048 : Shape := ⟨3, ![2, 256, 2048]⟩
abbrev S2048 : Shape := ⟨1, ![2048]⟩
abbrev S2048x4096 : Shape := ⟨2, ![2048, 4096]⟩
abbrev S512x2048 : Shape := ⟨2, ![512, 2048]⟩
abbrev S1x2048 : Shape := ⟨2, ![1, 2048]⟩
abbrev S512x4096 : Shape := ⟨2, ![512, 4096]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x4096, .f32⟩
  | .hbm, ⟨3, _⟩ => ⟨S512x2048, .f32⟩
  | .hbm, ⟨4, _⟩ => ⟨S1x2048, .f32⟩
  | .hbm, ⟨5, _⟩ => ⟨S2048x4096, .bf16⟩
  | .hbm, ⟨6, _⟩ => ⟨S512x4096, .bf16⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S2x256x2048 : Shape := ⟨3, ![2, 256, 2048]⟩
abbrev S2048 : Shape := ⟨1, ![2048]⟩
abbrev S2048x4096 : Shape := ⟨2, ![2048, 4096]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x4096 : Shape := ⟨3, ![2, 256, 4096]⟩
abbrev S512x4096 : Shape := ⟨2, ![512, 4096]⟩

abbrev nBuf : Space → Nat
  | .hbm => 22
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x4096, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x4096, .f32⟩
  | .hbm, ⟨20, _⟩ => ⟨S512x4096, .f32⟩
  | .hbm, ⟨21, _⟩ => ⟨S512x4096, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S16384x2048 : Shape := ⟨2, ![16384, 2048]⟩
abbrev S2048 : Shape := ⟨1, ![2048]⟩
abbrev S2048x14752 : Shape := ⟨2, ![2048, 14752]⟩
abbrev S256 : Shape := ⟨1, ![256]⟩
abbrev S128 : Shape := ⟨1, ![128]⟩
abbrev S2048x256 : Shape := ⟨2, ![2048, 256]⟩
abbrev S2048x128 : Shape := ⟨2, ![2048, 128]⟩
abbrev S2048x16 : Shape := ⟨2, ![2048, 16]⟩
abbrev S_ : Shape := ⟨0, ![]⟩
abbrev S2048x96 : Shape := ⟨2, ![2048, 96]⟩
abbrev S2048x512 : Shape := ⟨2, ![2048, 512]⟩
abbrev S1x2048 : Shape := ⟨2, ![1, 2048]⟩
abbrev S1x256 : Shape := ⟨2, ![1, 256]⟩
abbrev S1x128 : Shape := ⟨2, ![1, 128]⟩
abbrev S2x8704x256 : Shape := ⟨3, ![2, 8704, 256]⟩
abbrev S2x8704x128 : Shape := ⟨3, ![2, 8704, 128]⟩
abbrev S512x2048 : Shape := ⟨2, ![512, 2048]⟩
abbrev S1x512x256 : Shape := ⟨3, ![1, 512, 256]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S512x128 : Shape := ⟨2, ![512, 128]⟩

abbrev nBuf : Space → Nat
  | .hbm => 21
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14752, .f32⟩
  | .hbm, ⟨3, _⟩ => ⟨S256, .f32⟩
  | .hbm, ⟨4, _⟩ => ⟨S128, .f32⟩
  | .hbm, ⟨5, _⟩ => ⟨S128, .f32⟩
  | .hbm, ⟨6, _⟩ => ⟨S2048x256, .f32⟩
  | .hbm, ⟨7, _⟩ => ⟨S2048x128, .f32⟩
  | .hbm, ⟨8, _⟩ => ⟨S2048x16, .f32⟩
  | .hbm, ⟨9, _⟩ => ⟨S2048x16, .f32⟩
  | .hbm, ⟨10, _⟩ => ⟨S_, .f32⟩
  | .hbm, ⟨11, _⟩ => ⟨S2048x96, .f32⟩
  | .hbm, ⟨12, _⟩ => ⟨S2048x512, .f32⟩
  | .hbm, ⟨13, _⟩ => ⟨S2048x512, .bf16⟩
  | .hbm, ⟨14, _⟩ => ⟨S1x2048, .f32⟩
  | .hbm, ⟨15, _⟩ => ⟨S1x256, .f32⟩
  | .hbm, ⟨16, _⟩ => ⟨S1x128, .f32⟩
  | .hbm, ⟨17, _⟩ => ⟨S1x128, .f32⟩
  | .hbm, ⟨18, _⟩ => ⟨S2x8704x256, .bf16⟩
  | .hbm, ⟨19, _⟩ => ⟨S2x8704x128, .bf16⟩
  | .hbm, ⟨20, _⟩ => ⟨S2x8704x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S1x256, .f32⟩
  | .local _ .vmem, ⟨5, _⟩ => ⟨S1x128, .f32⟩
  | .local _ .vmem, ⟨6, _⟩ => ⟨S1x128, .f32⟩
  | .local _ .vmem, ⟨7, _⟩ => ⟨S1x512x256, .bf16⟩
  | .local _ .vmem, ⟨8, _⟩ => ⟨S1x512x256, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .f32⟩
  | .local _ .vmem, ⟨12, _⟩ => ⟨S1x512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![2, 17], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v3 : BitVec 1 := Scalar.xori v0 v_true
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference7Ideal.lean ====
abbrev S16384x2048 : Shape := ⟨2, ![16384, 2048]⟩
abbrev S2048 : Shape := ⟨1, ![2048]⟩
abbrev S2048x14752 : Shape := ⟨2, ![2048, 14752]⟩
abbrev S256 : Shape := ⟨1, ![256]⟩
abbrev S128 : Shape := ⟨1, ![128]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x14752 : Shape := ⟨3, ![2, 8192, 14752]⟩
abbrev S2x8192x1024 : Shape := ⟨3, ![2, 8192, 1024]⟩
abbrev S2x8192x16 : Shape := ⟨3, ![2, 8192, 16]⟩
abbrev S2x8192x256 : Shape := ⟨3, ![2, 8192, 256]⟩
abbrev S2x8192x128 : Shape := ⟨3, ![2, 8192, 128]⟩
abbrev S1x1x256 : Shape := ⟨3, ![1, 1, 256]⟩
abbrev S1x1x128 : Shape := ⟨3, ![1, 1, 128]⟩
abbrev S2x8192x96 : Shape := ⟨3, ![2, 8192, 96]⟩
abbrev S2x512x256 : Shape := ⟨3, ![2, 512, 256]⟩
abbrev S2x8704x256 : Shape := ⟨3, ![2, 8704, 256]⟩
abbrev S2x512x128 : Shape := ⟨3, ![2, 512, 128]⟩
abbrev S2x8704x128 : Shape := ⟨3, ![2, 8704, 128]⟩

abbrev nBuf : Space → Nat
  | .hbm => 93
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x14752, .f32⟩
  | .hbm, ⟨3, _⟩ => ⟨S256, .f32⟩
  | .hbm, ⟨4, _⟩ => ⟨S128, .f32⟩
  | .hbm, ⟨5, _⟩ => ⟨S128, .f32⟩
  | .hbm, ⟨6, _⟩ => ⟨S2x8192x2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S2x8192x14752, .f32⟩
  | .hbm, ⟨24, _⟩ => ⟨S2x8192x1024, .f32⟩
  | .hbm, ⟨25, _⟩ => ⟨S2x8192x1024, .f32⟩
  | .hbm, ⟨26, _⟩ => ⟨S2x8192x2048, .f32⟩
  | .hbm, ⟨27, _⟩ => ⟨S2x8192x2048, .f32⟩
  | .hbm, ⟨28, _⟩ => ⟨S2x8192x16, .f32⟩
  | .hbm, ⟨29, _⟩ => ⟨S2x8192x2048, .f32⟩
  | .hbm, ⟨30, _⟩ => ⟨S2x8192x256, .f32⟩
  | .hbm, ⟨31, _⟩ => ⟨S2x8192x2048, .f32⟩
  | .hbm, ⟨32, _⟩ => ⟨S2x8192x128, .f32⟩
  | .hbm, ⟨33, _⟩ => ⟨S2x8192x16, .f32⟩
  | .hbm, ⟨34, _⟩ => ⟨S2x8192x2048, .f32⟩
  | .hbm, ⟨35, _⟩ => ⟨S2x8192x2048, .f32⟩
  | .hbm, ⟨36, _⟩ => ⟨S2x8192x256, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x256, .f32⟩
  | .hbm, ⟨48, _⟩ => ⟨S2x8192x256, .f32⟩
  | .hbm, ⟨49, _⟩ => ⟨S1x1x256, .f32⟩
  | .hbm, ⟨50, _⟩ => ⟨S2x8192x256, .f32⟩
  | .hbm, ⟨51, _⟩ => ⟨S2x8192x256, .f32⟩
  | .hbm, ⟨52, _⟩ => ⟨S_, .f32⟩
  | .hbm, ⟨53, _⟩ => ⟨S2x8192, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x128, .f32⟩
  | .hbm, ⟨59, _⟩ => ⟨S2x8192x128, .f32⟩
  | .hbm, ⟨60, _⟩ => ⟨S2x8192x128, .f32⟩
  | .hbm, ⟨61, _⟩ => ⟨S_, .f32⟩
  | .hbm, ⟨62, _⟩ => ⟨S2x8192, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1, .f32⟩
  | .hbm, ⟨71, _⟩ => ⟨S2x8192x128, .f32⟩
  | .hbm, ⟨72, _⟩ => ⟨S2x8192x128, .f32⟩
  | .hbm, ⟨73, _⟩ => ⟨S1x1x128, .f32⟩
  | .hbm, ⟨74, _⟩ => ⟨S2x8192x128, .f32⟩
  | .hbm, ⟨75, _⟩ => ⟨S2x8192x128, .f32⟩
  | .hbm, ⟨76, _⟩ => ⟨S1x1x128, .f32⟩
  | .hbm, ⟨77, _⟩ => ⟨S2x8192x128, .f32⟩
  | .hbm, ⟨78, _⟩ => ⟨S2x8192x128, .f32⟩
  | .hbm, ⟨79, _⟩ => ⟨S_, .f32⟩
  | .hbm, ⟨80, _⟩ => ⟨S2x8192x96, .f32⟩
  | .hbm, ⟨81, _⟩ => ⟨S2x8192x128, .f32⟩
  | .hbm, ⟨82, _⟩ => ⟨S_, .f32⟩
  | .hbm, ⟨83, _⟩ => ⟨S2x512x256, .f32⟩
  | .hbm, ⟨84, _⟩ => ⟨S2x8704x256, .f32⟩
  | .hbm, ⟨85, _⟩ => ⟨S2x8704x256, .bf16⟩
  | .hbm, ⟨86, _⟩ => ⟨S_, .f32⟩
  | .hbm, ⟨87, _⟩ => ⟨S2x512x128, .f32⟩
  | .hbm, ⟨88, _⟩ => ⟨S2x8704x128, .f32⟩
  | .hbm, ⟨89, _⟩ => ⟨S2x8704x128, .bf16⟩
  | .hbm, ⟨90, _⟩ => ⟨S_, .f32⟩
  | .hbm, ⟨91, _⟩ => ⟨S2x512x128, .f32⟩
  | .hbm, ⟨92, _⟩ => ⟨S2x8704x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel8.lean ====
abbrev S16384x14336 : Shape := ⟨2, ![16384, 14336]⟩
abbrev S2x8704x128 : Shape := ⟨3, ![2, 8704, 128]⟩
abbrev S16x1024 : Shape := ⟨2, ![16, 1024]⟩
abbrev S1024 : Shape := ⟨1, ![1024]⟩
abbrev S512 : Shape := ⟨1, ![512]⟩
abbrev S1x1024 : Shape := ⟨2, ![1, 1024]⟩
abbrev S1x512 : Shape := ⟨2, ![1, 512]⟩
abbrev S2x8192x14336 : Shape := ⟨3, ![2, 8192, 14336]⟩
abbrev S2x8192x2048 : Shape := ⟨3, ![2, 8192, 2048]⟩
abbrev S2x64x1024 : Shape := ⟨3, ![2, 64, 1024]⟩
abbrev S2x64x2048 : Shape := ⟨3, ![2, 64, 2048]⟩
abbrev S2x64x128 : Shape := ⟨3, ![2, 64, 128]⟩
abbrev S8x512x256 : Shape := ⟨3, ![8, 512, 256]⟩
abbrev S128x128 : Shape := ⟨2, ![128, 128]⟩
abbrev S1x64x128 : Shape := ⟨3, ![1, 64, 128]⟩
abbrev S64x128 : Shape := ⟨2, ![64, 128]⟩
abbrev S64x16 : Shape := ⟨2, ![64, 16]⟩
abbrev S128x16 : Shape := ⟨2, ![128, 16]⟩
abbrev S128x1024 : Shape := ⟨2, ![128, 1024]⟩
abbrev S128x256 : Shape := ⟨2, ![128, 256]⟩
abbrev S1x64x1024 : Shape := ⟨3, ![1, 64, 1024]⟩
abbrev S64x1024 : Shape := ⟨2, ![64, 1024]⟩
abbrev S64x256 : Shape := ⟨2, ![64, 256]⟩
abbrev S1x64x2048 : Shape := ⟨3, ![1, 64, 2048]⟩
abbrev S64x2048 : Shape := ⟨2, ![64, 2048]⟩
abbrev S64x512 : Shape := ⟨2, ![64, 512]⟩
abbrev S128x512 : Shape := ⟨2, ![128, 512]⟩
abbrev S1x512x256 : Shape := ⟨3, ![1, 512, 256]⟩
abbrev S512x256 : Shape := ⟨2, ![512, 256]⟩
abbrev S1x256 : Shape := ⟨2, ![1, 256]⟩
abbrev S512x64 : Shape := ⟨2, ![512, 64]⟩
abbrev S128 : Shape := ⟨1, ![128]⟩
abbrev S128x1 : Shape := ⟨2, ![128, 1]⟩
abbrev S1x64x512 : Shape := ⟨3, ![1, 64, 512]⟩
abbrev S16384x2048 : Shape := ⟨2, ![16384, 2048]⟩

abbrev nBuf : Space → Nat
  | .hbm => 11
  | .vmem => 16
  | .smem => 0
  | _ => 0

abbrev bufTy : (tb : Table) → Fin (tcTables nBuf tb) → BufTy
  | .hbm, ⟨0, _⟩ => ⟨S16384x14336, .bf16⟩
  | .hbm, ⟨1, _⟩ => ⟨S2x8704x128, .f32⟩
  | .hbm, ⟨2, _⟩ => ⟨S16x1024, .f32⟩
  | .hbm, ⟨3, _⟩ => ⟨S1024, .f32⟩
  | .hbm, ⟨4, _⟩ => ⟨S512, .f32⟩
  | .hbm, ⟨5, _⟩ => ⟨S16x1024, .bf16⟩
  | .hbm, ⟨6, _⟩ => ⟨S1x1024, .f32⟩
  | .hbm, ⟨7, _⟩ => ⟨S1x512, .f32⟩
  | .hbm, ⟨8, _⟩ => ⟨S2x8192x14336, .bf16⟩
  | .hbm, ⟨9, _⟩ => ⟨S2x8192x2048, .bf16⟩
  | .hbm, ⟨10, _⟩ => ⟨S16384x2048, .bf16⟩
  | .local _ .vmem, ⟨0, _⟩ => ⟨S2x64x1024, .bf16⟩
  | .local _ .vmem, ⟨1, _⟩ => ⟨S2x64x1024, .bf16⟩
  | .local _ .vmem, ⟨2, _⟩ => ⟨S2x64x1024, .bf16⟩
  | .local _ .vmem, ⟨3, _⟩ => ⟨S2x64x1024, .bf16⟩
  | .local _ .vmem, ⟨4, _⟩ => ⟨S2x64x2048, .bf16⟩
  | .local _ .vmem, ⟨5, _⟩ => ⟨S2x64x2048, .bf16⟩
  | .local _ .vmem, ⟨6, _⟩ => ⟨S2x64x2048, .bf16⟩
  | .local _ .vmem, ⟨7, _⟩ => ⟨S2x64x2048, .bf16⟩
  | .local _ .vmem, ⟨8, _⟩ => ⟨S2x64x128, .f32⟩
  | .local _ .vmem, ⟨9, _⟩ => ⟨S2x64x128, .f32⟩
  | .local _ .vmem, ⟨10, _⟩ => ⟨S16x1024, .bf16⟩
  | .local _ .vmem, ⟨11, _⟩ => ⟨S1x1024, .f32⟩
  | .local _ .vmem, ⟨12, _⟩ => ⟨S1x512, .f32⟩
  | .local _ .vmem, ⟨13, _⟩ => ⟨S2x64x2048, .bf16⟩
  | .local _ .vmem, ⟨14, _⟩ => ⟨S2x64x2048, .bf16⟩
  | .local _ .vmem, ⟨15, _⟩ => ⟨S8x512x256, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_4 (i : grid0.Coords) : Fin 3 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Proof.Safe.lean ====
/- Programs that run within what they hold. `Safe c bd R p` says: holding the assertion `R`, the program `p` runs to its end and
   hands `R` back, whatever it returns. `Reads` and `Writes` say that `R` holds a memref's buffer, to be read or to be overwritten.
   The lemmas close `Safe` under return, sequence, load, store, counted loop and branch, so that a kernel whose every access
   goes through memrefs held in `R` is safe by its text alone: no offset, no value and no trip count is looked at. -/
module

public import Idealize.ShloMosaic.Adequacy
public import Idealize.ShloMosaic.Init
public import Idealize.ShloMosaic.Lib.Scf
public import Idealize.ShloMosaic.Lib.Pipeline.Frame

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {U : Type} [URA U]

local notation "𝕄" => MT nD τ sig Unit Val ℕ U ℕ

variable {defs : Defs nD τ sig Val Λ} {𝒱 : Variants} {c : Thread nD τ} {bd : Option 𝒱.V} {E : Set ℕ}
variable {R : sProp (MT nD τ sig Unit Val ℕ U ℕ)} {cs : CoreSpace} {s : Shape} {e : EltTy}

/-- The program runs from `R` back to `R`. -/
structure Safe (defs : Defs nD τ sig Val Λ) (𝒱 : Variants) (c : Thread nD τ) (bd : Option 𝒱.V) (E : Set ℕ) (R : sProp 𝕄) {α : Type}
    (p : Prog (TpuEff nD τ sig Val Λ c.2) α) : Prop where
  run : R ⊢ wp Idealize.ShloMosaic.frame (wpE defs 𝒱 c bd) E p fun _ => R

/-- `R` holds the buffer under `m` at some contents and share, and takes it back as it was. -/
def Reads {c : Thread nD τ} (R : sProp 𝕄) {cs : CoreSpace} {s : Shape} {e : EltTy} (m : Memref sig c.2.kind cs s e) : Prop :=
  R ⊢ iprop(∃ (q : PosShare TreeShare) (f : Buf Val (m.view.loc c)),
    (m.view.loc c ↦[m.view.set]{q} f) ∗ ((m.view.loc c ↦[m.view.set]{q} f) -∗ R))

/-- `R` holds the buffer under `m` whole, and takes it back at any contents. -/
def Writes {c : Thread nD τ} (R : sProp 𝕄) {cs : CoreSpace} {s : Shape} {e : EltTy} (m : Memref sig c.2.kind cs s e) : Prop :=
  R ⊢ iprop(∃ f : Buf Val (m.view.loc c),
    (m.view.loc c ↦[m.view.set]{fullShare} f) ∗ (∀ f' : Buf Val (m.view.loc c), (m.view.loc c ↦[m.view.set]{fullShare} f') -∗ R))

theorem Writes.reads {m : Memref sig c.2.kind cs s e} (h : Writes (U := U) R m) : Reads (U := U) R m := by
  unfold Writes at h; unfold Reads
  iintro H
  ihave H := h $$ H
  icases H with ⟨%f, H, Hk⟩
  iexists fullShare, f
  isplitl [H]
  · iexact H
  · iintro H; iapply Hk; iexact H

/-- An access touches elements of the memref it goes through. -/
theorem access_subset {κ : Kind} {sp : Space} (m : Memref sig κ sp s e) (r : Rect s) (Mk : Finset r.shape.Idx) :
    (m.access r).setOn Mk ⊆ m.view.set :=
  (View.setOn_subset_set _ _).trans (View.set_slice_subset _ _)

variable {α β σ : Type}

theorem safe_pure (a : α) : Safe (U := U) defs 𝒱 c bd E R (pure a) := by
  constructor
  show R ⊢ wp Idealize.ShloMosaic.frame (wpE defs 𝒱 c bd) E (.ret a) fun _ => R
  rw [wp_ret]
  iintro H; imodintro; iexact H

theorem safe_bind {p : Prog (TpuEff nD τ sig Val Λ c.2) α} {k : α → Prog (TpuEff nD τ sig Val Λ c.2) β}
    (hp : Safe (U := U) defs 𝒱 c bd E R p) (hk : ∀ a, Safe (U := U) defs 𝒱 c bd E R (k a)) : Safe (U := U) defs 𝒱 c bd E R (p >>= k) := by
  constructor
  rw [wp_bind]
  exact hp.run.trans (wp_mono _ _ _ fun a => (hk a).run)

theorem safe_load {m : Memref sig c.2.kind cs s e} {r : LoadRect s} {hl : m.view.LoadsAt r} (h : Reads (U := U) R m) :
    Safe (U := U) (Val := Val) defs 𝒱 c bd E R (Prog.lift (.load m r hl)) := by
  unfold Reads at h; constructor
  iintro H
  ihave H := h $$ H
  icases H with ⟨%q, %f, H, Hk⟩
  iapply (wp_load 𝒱 c bd E (View.setOn_subset_set _ _)) $$ H
  iintro H
  rw [wp_ret]
  imodintro; iapply Hk; iexact H

theorem safe_store {m : Memref sig c.2.kind cs s e} {r : Rect s} {w : r.shape.Idx → Val e} {Mk : Finset r.shape.Idx}
    {hx : (m.access r).Stores Mk} {hm : Mk = Finset.univ ∨ ∀ a, r.stride a = 1} (h : Writes (U := U) R m) :
    Safe (U := U) defs 𝒱 c bd E R (Prog.lift (.store m r w Mk hx hm)) := by
  unfold Writes at h; constructor
  iintro H
  ihave H := h $$ H
  icases H with ⟨%f, H, Hk⟩
  iapply (wp_store (defs := defs) 𝒱 c bd E (hx := hx) (hm := hm) (w := w) (f := f) (access_subset m r Mk)) $$ H
  iintro H
  rw [wp_ret]
  imodintro; iapply Hk; iexact H

theorem safe_for {w : Nat} (l : Scf.Loop w) (ok : l.OK) (init : σ) {body : Fin l.trips → σ → Prog (TpuEff nD τ sig Val Λ c.2) σ}
    (h : ∀ k a, Safe (U := U) defs 𝒱 c bd E R (body k a)) : Safe (U := U) defs 𝒱 c bd E R (l.for ok init body) := by
  constructor
  refine BIBase.Entails.trans ?_ (Scf.wp_for Idealize.ShloMosaic.frame (wpE defs 𝒱 c bd) E l.lb l.ub l.st ok init body (fun _ _ => R) fun k a => (h k a).run)
  iintro H
  isplitl [H]
  · iexact H
  · iintro %a H; iexact H

theorem safe_dite {P : Prop} [Decidable P] {p : P → Prog (TpuEff nD τ sig Val Λ c.2) α} {q : ¬P → Prog (TpuEff nD τ sig Val Λ c.2) α}
    (hp : ∀ h, Safe (U := U) defs 𝒱 c bd E R (p h)) (hq : ∀ h, Safe (U := U) defs 𝒱 c bd E R (q h)) : Safe (U := U) defs 𝒱 c bd E R (dite P p q) := by
  by_cases h : P
  · rw [dif_pos h]; exact hp h
  · rw [dif_neg h]; exact hq h

theorem safe_ite {P : Prop} [Decidable P] {p q : Prog (TpuEff nD τ sig Val Λ c.2) α}
    (hp : Safe (U := U) defs 𝒱 c bd E R p) (hq : Safe (U := U) defs 𝒱 c bd E R q) :
    Safe (U := U) defs 𝒱 c bd E R (if P then p else q) := by
  by_cases h : P
  · rw [if_pos h]; exact hp
  · rw [if_neg h]; exact hq

theorem safe_let {p : α → Prog (TpuEff nD τ sig Val Λ c.2) β} (x : α) (h : ∀ x, Safe (U := U) defs 𝒱 c bd E R (p x)) :
    Safe (U := U) defs 𝒱 c bd E R (let y := x; p y) := h x

/-- A statement about every dependent pair, from one about its two components. -/
theorem forall_pair {β : α → Type} {P : (Σ' a, β a) → Prop} (h : ∀ a b, P ⟨a, b⟩) : ∀ x, P x := fun ⟨a, b⟩ => h a b

/-! ## Assertions that hold several buffers -/

variable {R' : sProp (MT nD τ sig Unit Val ℕ U ℕ)}

theorem Reads.left {m : Memref sig c.2.kind cs s e} (h : Reads (U := U) R m) : Reads (U := U) iprop(R ∗ R') m := by
  unfold Reads at *
  iintro ⟨H, H'⟩
  ihave H := h $$ H
  icases H with ⟨%q, %f, H, Hk⟩
  iexists q, f
  isplitl [H]; · iexact H
  iintro H
  isplitl [H Hk]; · iapply Hk; iexact H
  iexact H'

theorem Reads.right {m : Memref sig c.2.kind cs s e} (h : Reads (U := U) R' m) : Reads (U := U) iprop(R ∗ R') m := by
  unfold Reads at *
  iintro ⟨H', H⟩
  ihave H := h $$ H
  icases H with ⟨%q, %f, H, Hk⟩
  iexists q, f
  isplitl [H]; · iexact H
  iintro H
  isplitl [H']; · iexact H'
  iapply Hk; iexact H

theorem Writes.left {m : Memref sig c.2.kind cs s e} (h : Writes (U := U) R m) : Writes (U := U) iprop(R ∗ R') m := by
  unfold Writes at *
  iintro ⟨H, H'⟩
  ihave H := h $$ H
  icases H with ⟨%f, H, Hk⟩
  iexists f
  isplitl [H]; · iexact H
  iintro %f' H
  isplitl [H Hk]; · iapply Hk; iexact H
  iexact H'

theorem Writes.right {m : Memref sig c.2.kind cs s e} (h : Writes (U := U) R' m) : Writes (U := U) iprop(R ∗ R') m := by
  unfold Writes at *
  iintro ⟨H', H⟩
  ihave H := h $$ H
  icases H with ⟨%f, H, Hk⟩
  iexists f
  isplitl [H]; · iexact H
  iintro %f' H
  isplitl [H']; · iexact H'
  iapply Hk; iexact H

theorem reads_owns {m : Memref sig c.2.kind cs s e} {q : PosShare TreeShare} {X : s.Idx → Val e} :
    Reads (owns c m q X : sProp 𝕄) m := by
  unfold Reads owns
  iintro ⟨%f, %hf, H⟩
  iexists q, f
  isplitl [H]; · iexact H
  iintro H
  iexists f
  isplitr; · ipureintro; exact hf
  iexact H

theorem writes_owns {m : Memref sig c.2.kind cs s e} :
    Writes (iprop(∃ X, owns c m fullShare X) : sProp 𝕄) m := by
  unfold Writes owns
  iintro ⟨%X, %f, %hf, H⟩
  iexists f
  isplitl [H]; · iexact H
  iintro %f' H
  iexists _, f'
  isplitr; · ipureintro; rfl
  iexact H

theorem writes_whole {m : Memref sig c.2.kind cs s e} (hm : m.view.set = Finset.univ) :
    Writes (U := U) (iprop(∃ f : Buf Val (m.view.loc c), m.view.loc c ↦{fullShare} f)) m := by
  unfold Writes
  rw [hm]
  iintro ⟨%f, H⟩
  iexists f
  isplitl [H]; · iexact H
  iintro %f' H
  iexists f'
  iexact H

end Cert.Proof

end
-- ==== Proof.Body.lean ====
/- The body of the kernel `dsa` at one grid point only reads the buffers its eight inputs are staged in and only
   reads and writes its output block and its fourteen scratch buffers, whatever they hold: one walk over the
   program's statements, by the rules of `Safe`. -/
module

public import proofs.«01_k».proof.Proof.Safe
public import proofs.«01_k».proof.Kernel

@[expose] public section

noncomputable section

namespace Cert.Proof

open Cert.Kernel
open Idealize.ShloMosaic Idealize.ShloMosaic.TcCoe
open Idealize.SL Idealize.SL.RA Idealize.SL.BI
open Idealize.SL.Sem

variable {F : FTy → Type} [BitOps F] [Facts]
variable {U : Type} [URA U] {𝒱 : Variants} {c : Dev nD} {bd : Option 𝒱.V} {E : Set ℕ}
variable {R : sProp (MT nD τ sig Unit (Elt F) ℕ U ℕ)}

set_option maxHeartbeats 0 in
set_option maxRecDepth 100000 in
/-- Where `R` lends out the inputs for reading and the output and the scratch buffers for writing, the body starts from
    `R`, does not fault, and gives `R` back. -/
theorem safe_cc0_dsa (i : grid0.Coords) (arg2 : Memref sig .tc .vmem S128x2048 .bf16) (harg2 : arg2.IsWhole) (arg3 : Memref sig .tc .vmem S128x2048 .bf16) (harg3 : arg3.IsWhole) (arg4 : Memref sig .tc .vmem S1x128x128 .f32) (harg4 : arg4.IsWhole) (arg5 : Memref sig .tc .vmem S1x8704x128 .bf16) (harg5 : arg5.IsWhole) (arg6 : Memref sig .tc .vmem S1x8704x256 .bf16) (harg6 : arg6.IsWhole) (arg7 : Memref sig .tc .vmem S16x128x256 .bf16) (harg7 : arg7.IsWhole) (arg8 : Memref sig .tc .vmem S16x256x128 .bf16) (harg8 : arg8.IsWhole) (arg9 : Memref sig .tc .vmem S16x128x256 .f32) (harg9 : arg9.IsWhole) (arg10 : Memref sig .tc .vmem S128x2048 .bf16) (harg10 : arg10.IsWhole) (arg11 : Memref sig .tc .vmem S128x8704 .i32) (harg11 : arg11.IsWhole) (arg12 : Memref sig .tc .vmem S32x128x384 .i32) (harg12 : arg12.IsWhole) (arg13 : Memref sig .tc .vmem S128x384 .i32) (harg13 : arg13.IsWhole) (arg14 : Memref sig .tc .vmem S2048x128 .bf16) (harg14 : arg14.IsWhole) (arg15 : Memref sig .tc .vmem S2048x128 .f32) (harg15 : arg15.IsWhole) (arg16 : Memref sig .tc .vmem S2048x256 .bf16) (harg16 : arg16.IsWhole) (arg17 : Memref sig .tc .vmem S128x512 .f32) (harg17 : arg17.IsWhole) (arg18 : Memref sig .tc .vmem S2048x512 .f32) (harg18 : arg18.IsWhole) (arg19 : Memref sig .tc .vmem S2048x512 .f32) (harg19 : arg19.IsWhole) (arg20 : Memref sig .tc .vmem S2048x512 .bf16) (harg20 : arg20.IsWhole) (arg21 : Memref sig .tc .vmem S2048x128 .f32) (harg21 : arg21.IsWhole) (arg22 : Memref sig .tc .vmem S2048x128 .f32) (harg22 : arg22.IsWhole) (arg23 : Memref sig .tc .vmem S2048x128 .f32) (harg23 : arg23.IsWhole) (arg24 : Memref sig .tc .vmem S2048x256 .f32) (harg24 : arg24.IsWhole)
 (H2 : Reads (U := U) (c := (c : Thread nD τ)) R arg2) (H3 : Reads (U := U) (c := (c : Thread nD τ)) R arg3) (H4 : Reads (U := U) (c := (c : Thread nD τ)) R arg4) (H5 : Reads (U := U) (c := (c : Thread nD τ)) R arg5) (H6 : Reads (U := U) (c := (c : Thread nD τ)) R arg6) (H7 : Reads (U := U) (c := (c : Thread nD τ)) R arg7) (H8 : Reads (U := U) (c := (c : Thread nD τ)) R arg8) (H9 : Reads (U := U) (c := (c : Thread nD τ)) R arg9) (H10 : Writes (U := U) (c := (c : Thread nD τ)) R arg10) (H11 : Writes (U := U) (c := (c : Thread nD τ)) R arg11) (H12 : Writes (U := U) (c := (c : Thread nD τ)) R arg12) (H13 : Writes (U := U) (c := (c : Thread nD τ)) R arg13) (H14 : Writes (U := U) (c := (c : Thread nD τ)) R arg14) (H15 : Writes (U := U) (c := (c : Thread nD τ)) R arg15) (H16 : Writes (U := U) (c := (c : Thread nD τ)) R arg16) (H17 : Writes (U := U) (c := (c : Thread nD τ)) R arg17) (H18 : Writes (U := U) (c := (c : Thread nD τ)) R arg18) (H19 : Writes (U := U) (c := (c : Thread nD τ)) R arg19) (H20 : Writes (U := U) (c := (c : Thread nD τ)) R arg20) (H21 : Writes (U := U) (c := (c : Thread nD τ)) R arg21) (H22 : Writes (U := U) (c := (c : Thread nD τ)) R arg22) (H23 : Writes (U := U) (c := (c : Thread nD τ)) R arg23) (H24 : Writes (U := U) (c := (c : Thread nD τ)) R arg24) :
  Safe (U := U) defs₀ 𝒱 (c : Thread nD τ) bd E R (cc0_dsa (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) := by
  repeat'
    first
    | (with_reducible refine safe_pure _)
    | (with_reducible refine safe_load ?_; first | assumption | exact Writes.reads (by assumption))
    | (with_reducible refine safe_store ?_; assumption)
    | (with_reducible refine safe_for _ _ _ ?_)
    | (with_reducible refine safe_dite ?_ ?_)
    | (with_reducible refine safe_ite ?_ ?_)
    | (with_reducible refine forall_pair ?_)
    | intro _
    | (refine safe_bind ?_ ?_)
    | (refine safe_ite ?_ ?_)
    | (refine safe_dite ?_ ?_)
    | (refine safe_pure _)

end Cert.Proof
end
-- ==== Proof.Run.lean ====
/- The run of `dsa`'s program: every grid point reads its eight input blocks, writes its output block and the
   scratch buffers, and touches nothing else. So the seven argument arrays end as they began, and no semaphore is
   left raised. What the output block holds is not said here. -/
module

public import proofs.«01_k».proof.Proof.Body
public import proofs.«01_k».proof.Proof.Gen.Kernel.Frame

@[expose] public section

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [BitOps F]
variable (m : (ℓ : Loc nD τ sig) → Buf (Elt F) ℓ) (ρ : Dev nD → PrngReg)

/-- The proof data: every input window's block stays what was fetched; of the output window nothing is said. -/
def dat (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => Dat.unnamed 8 t
  Φ _ := Pipeline.ΦA spec0 c
  q w := Pipeline.shareOf spec0 w
  owed _ := 0

/-- The output window, of whose contents nothing is said. -/
def forgets : Fin 9 → Bool := fun w => w.val == 8

/-- A scratch buffer, held whole at some contents. -/
abbrev someOf (c : Dev nD) (b : Ref sig .tc) : sProp (MT nD τ sig Unit (Elt F) ℕ (UR sig nD τ) ℕ) :=
  iprop(∃ X : b.ty.Contents (Elt F), owns (c : Thread nD τ) (Memref.whole b) fullShare X)

/-- Holding a buffer whole, said of its location and of the memref that is all of it. -/
theorem someOf_eq (c : Dev nD) (b : Ref sig .tc) :
    (iprop(∃ f : Buf (Elt F) ((c : Thread nD τ).loc b), ((c : Thread nD τ).loc b) ↦{fullShare} f)
      : sProp (MT nD τ sig Unit (Elt F) ℕ (UR sig nD τ) ℕ)) = someOf c b :=
  congrArg _ (funext fun X => (owns_whole (c : Thread nD τ) b fullShare X).symm)

/-- An input window's current staging buffer, holding its block. -/
abbrev inp (c : Dev nD) (t : Fin cfg0.N) (w : Fin 9) : sProp (MT nD τ sig Unit (Elt F) ℕ (UR sig nD τ) ℕ) :=
  owns c ((cfg0.win w).stage (cfg0.slots t w)) fullShare ((dat m c).after w t)

/-- The fourteen scratch buffers. -/
abbrev scratch (c : Dev nD) : sProp (MT nD τ sig Unit (Elt F) ℕ (UR sig nD τ) ℕ) :=
  iprop(someOf c cc0_scratch0 ∗ someOf c cc0_scratch1 ∗ someOf c cc0_scratch2 ∗ someOf c cc0_scratch3
    ∗ someOf c cc0_scratch4 ∗ someOf c cc0_scratch5 ∗ someOf c cc0_scratch6 ∗ someOf c cc0_scratch7
    ∗ someOf c cc0_scratch8 ∗ someOf c cc0_scratch9 ∗ someOf c cc0_scratch10 ∗ someOf c cc0_scratch11
    ∗ someOf c cc0_scratch12 ∗ someOf c cc0_scratch13)

/-- The nine windows' current staging buffers. -/
abbrev windows (c : Dev nD) (t : Fin cfg0.N) : sProp (MT nD τ sig Unit (Elt F) ℕ (UR sig nD τ) ℕ) :=
  iprop(inp m c t 0 ∗ inp m c t 1 ∗ inp m c t 2 ∗ inp m c t 3 ∗ inp m c t 4 ∗ inp m c t 5 ∗ inp m c t 6 ∗ inp m c t 7
    ∗ ∃ X, owns c ((cfg0.win 8).stage (cfg0.slots t 8)) fullShare X)

/-- All a grid point holds. -/
abbrev held (c : Dev nD) (t : Fin cfg0.N) : sProp (MT nD τ sig Unit (Elt F) ℕ (UR sig nD τ) ℕ) :=
  iprop((scratch (F := F) c ∗ ∃ r, prngReg c r) ∗ (dat m c).owesAt () t.castSucc ∗ windows m c t)

set_option maxHeartbeats 2000000 in
/-- The body at a grid point starts from all that is held there, does not fault, and gives it back. -/
theorem body_safe (c : Dev nD) (t : Fin cfg0.N) :
    Safe (U := UR sig nD τ) defs₀ Variants.none (c : Thread nD τ) none Set.univ (held m c t) (bodyAt0 (F := F) t) := by
  unfold bodyAt0
  refine safe_cc0_dsa _ _ _ _ _ _ _ _ _ _ _ _ _ _ _ _ _ _ _ _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_
  · exact .right (.right (.left reads_owns))
  · exact .right (.right (.right (.left reads_owns)))
  · exact .right (.right (.right (.right (.left reads_owns))))
  · exact .right (.right (.right (.right (.right (.left reads_owns)))))
  · exact .right (.right (.right (.right (.right (.right (.left reads_owns))))))
  · exact .right (.right (.right (.right (.right (.right (.right (.left reads_owns)))))))
  · exact .right (.right (.right (.right (.right (.right (.right (.right (.left reads_owns))))))))
  · exact .right (.right (.right (.right (.right (.right (.right (.right (.right (.left reads_owns)))))))))
  · exact .right (.right (.right (.right (.right (.right (.right (.right (.right (.right writes_owns)))))))))
  · exact .left (.left (.left (writes_owns)))
  · exact .left (.left (.right (.left (writes_owns))))
  · exact .left (.left (.right (.right (.left (writes_owns)))))
  · exact .left (.left (.right (.right (.right (.left (writes_owns))))))
  · exact .left (.left (.right (.right (.right (.right (.left (writes_owns)))))))
  · exact .left (.left (.right (.right (.right (.right (.right (.left (writes_owns))))))))
  · exact .left (.left (.right (.right (.right (.right (.right (.right (.left (writes_owns)))))))))
  · exact .left (.left (.right (.right (.right (.right (.right (.right (.right (.left (writes_owns))))))))))
  · exact .left (.left (.right (.right (.right (.right (.right (.right (.right (.right (.left (writes_owns)))))))))))
  · exact .left (.left (.right (.right (.right (.right (.right (.right (.right (.right (.right (.left (writes_owns))))))))))))
  · exact .left (.left (.right (.right (.right (.right (.right (.right (.right (.right (.right (.right (.left (writes_owns)))))))))))))
  · exact .left (.left (.right (.right (.right (.right (.right (.right (.right (.right (.right (.right (.right (.left (writes_owns))))))))))))))
  · exact .left (.left (.right (.right (.right (.right (.right (.right (.right (.right (.right (.right (.right (.right (.left (writes_owns)))))))))))))))
  · exact .left (.left (.right (.right (.right (.right (.right (.right (.right (.right (.right (.right (.right (.right (.right (writes_owns)))))))))))))))

set_option maxHeartbeats 2000000 in
/-- What the pipeline asks of the body at a grid point. -/
theorem body (c : Dev nD) : BodyObligation (dat m c) defs₀ Variants.none () Set.univ forgets := fun t => by
  rw [bigSep_W0, bigSep_W0]
  have h0 : ∀ d, (dat m c).before 0 t d = (dat m c).after 0 t := before0_0_of m (dat m c) rfl (fun _ => rfl) t
  have h1 : ∀ d, (dat m c).before 1 t d = (dat m c).after 1 t := before0_1_of m (dat m c) rfl (fun _ => rfl) t
  have h2 : ∀ d, (dat m c).before 2 t d = (dat m c).after 2 t := before0_2_of m (dat m c) rfl (fun _ => rfl) t
  have h3 : ∀ d, (dat m c).before 3 t d = (dat m c).after 3 t := before0_3_of m (dat m c) rfl (fun _ => rfl) t
  have h4 : ∀ d, (dat m c).before 4 t d = (dat m c).after 4 t := before0_4_of m (dat m c) rfl (fun _ => rfl) t
  have h5 : ∀ d, (dat m c).before 5 t d = (dat m c).after 5 t := before0_5_of m (dat m c) rfl (fun _ => rfl) t
  have h6 : ∀ d, (dat m c).before 6 t d = (dat m c).after 6 t := before0_6_of m (dat m c) rfl (fun _ => rfl) t
  have h7 : ∀ d, (dat m c).before 7 t d = (dat m c).after 7 t := before0_7_of m (dat m c) rfl (fun _ => rfl) t
  have take : ∀ w : Fin 9, (∀ d, (dat m c).before w t d = (dat m c).after w t) →
      (iprop(∃ d, owns c ((cfg0.win w).stage (cfg0.slots t w)) fullShare ((dat m c).before w t d))
        : sProp (MT nD τ sig Unit (Elt F) ℕ (UR sig nD τ) ℕ)) ⊢ inp m c t w := by
    intro w h
    iintro ⟨%d, H⟩
    rw [h d]
    iexact H
  have hΦ : ∀ u, (dat m c).Φ u = iprop(scratch (F := F) c ∗ ∃ r, prngReg c r) := by
    intro u
    show Pipeline.ΦA spec0 c = _
    unfold Pipeline.ΦA
    rw [scopedRest0_eq]
    simp only [someOf_eq]
  rw [hΦ, hΦ]
  refine BIBase.Entails.trans (Q := held m c t) (BIClass.sep_mono (Entails.of_eq rfl) (BIClass.sep_mono (Entails.of_eq rfl) ?_))
    ((body_safe m c t).run.trans (wp_mono _ _ _ fun _ =>
      BIClass.sep_mono (Entails.of_eq rfl) (BIClass.sep_mono (Entails.of_eq rfl) (Entails.of_eq rfl))))
  refine BIClass.sep_mono (take 0 h0) ?_
  refine BIClass.sep_mono (take 1 h1) ?_
  refine BIClass.sep_mono (take 2 h2) ?_
  refine BIClass.sep_mono (take 3 h3) ?_
  refine BIClass.sep_mono (take 4 h4) ?_
  refine BIClass.sep_mono (take 5 h5) ?_
  refine BIClass.sep_mono (take 6 h6) ?_
  refine BIClass.sep_mono (take 7 h7) ?_
  exact Entails.of_eq rfl

/-- The whole run, over any float words: the arguments end as they began and no semaphore is left raised. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  Pipeline.θ_run_frame_forget_shared cfgs (fun _ c => dat m c) 0 launch₀0 defs₀ Variants.none forgets m ρ main
    (fun c => (body m c).loose) (fun _ _ _ => rfl) (fun _ _ => rfl) (V m) (hmain m Variants.none) (fun _ _ => rfl)
    (fun _ _ => rfl) _
    (fun _ h => ⟨fun c => ⟨(h.1.arr_in c 1 rfl).trans (V_main_arg0 m c), (h.1.arr_in c 2 rfl).trans (V_main_arg1 m c),
      (h.1.arr_in c 3 rfl).trans (V_main_arg2 m c), (h.1.arr_in c 4 rfl).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (h.1.arr_in c 7 rfl).trans (V_main_arg6 m c)⟩, h.2⟩)

end Cert.Proof.Kernel
end
-- ==== Proof.Norm.lean ====
/- The scalar functions that the calls share: a row's root-mean-square norm, times a gain, and the
   normed rows' product with a matrix. -/
module

public import Idealize.ShloMosaic.Lib.Pipeline.ValueKit
public import Idealize.ShloMosaic.Lib.KernelVsHost

@[expose] public section

noncomputable section

namespace Cert.Proof

open Idealize.ShloMosaic

/-- Entry `d` of the row `x`, divided by the root of the mean of the row's squares plus epsilon, times the gain `g`. -/
def rmsAt (x : Fin 2048 → EReal) (g : EReal) (d : Fin 2048) : EReal :=
  x d * Ideal.rsqrt (Ideal.div (∑ k : Fin 2048, x k * x k) (Ideal.ofBits .f32 0x45000000#32)
    + Ideal.ofBits .f32 0x358637BD#32) * g

/-- Entry `(i, k)` of the matrix `h` with its rows normed, times the gains `g`. -/
def normed {n : ℕ} (h : FVec Ideal ⟨2, ![n, 2048]⟩ .f32) (g : FVec Ideal ⟨1, ![2048]⟩ .f32) (i : Fin n) (k : Fin 2048) : EReal :=
  rmsAt (fun k => h (ix2 i k)) (g (ix1 k)) k

/-- Entry `(i, e)` of the normed rows' product with the matrix `w`. -/
def normedDot {n p : ℕ} (h : FVec Ideal ⟨2, ![n, 2048]⟩ .f32) (g : FVec Ideal ⟨1, ![2048]⟩ .f32)
    (w : FVec Ideal ⟨2, ![2048, p]⟩ .f32) (i : Fin n) (e : Fin p) : EReal :=
  ∑ k : Fin 2048, normed h g i k * w (ix2 k e)

/-- The matrix with entry `f i d` at `(i, d)`. -/
def ofEntries {n p : ℕ} {φ : FTy} (f : Fin n → Fin p → EReal) : FVec Ideal ⟨2, ![n, p]⟩ φ := fun i => f (i 0) (i 1)

/-- A matrix whose entries are `f` is `ofEntries f`. -/
theorem eq_ofEntries {n p : ℕ} {φ : FTy} {f : Fin n → Fin p → EReal} {x : FVec Ideal ⟨2, ![n, p]⟩ φ}
    (h : ∀ i d, x (ix2 i d) = f i d) : x = ofEntries f := by
  funext i
  exact (congrArg x (eq_ix2 (n0 := n) (n1 := p) i)).trans (h (i 0) (i 1))

end Cert.Proof

end
-- ==== Proof.InMath.lean ====
module

public import proofs.«01_k».proof.Proof.Gen.Reference2Ideal.Run
public import proofs.«01_k».proof.Proof.Norm

@[expose] public section

set_option maxRecDepth 16384

noncomputable section

namespace Cert.Proof.InProj

open Idealize.ShloMosaic Idealize.ShloMosaic.TcCoe Idealize.SL.Sem Cert.Proof

/-- The column of the weights that column `j` of the result is computed from: the three small groups of columns are left out. -/
def colN (j : ℕ) : ℕ := if j < 6144 then j else if j < 8192 then j + 16 else if j < 10240 then j + 272 else j + 416

theorem colN_lt {j : ℕ} (h : j < 14336) : colN j < 14752 := by unfold colN; split_ifs <;> omega

/-- `colN` of a column of the result. -/
def col (j : Fin 14336) : Fin 14752 := ⟨colN j.val, colN_lt j.isLt⟩

theorem dot_col {n p : ℕ} (h : FVec Ideal ⟨2, ![n, 2048]⟩ .f32) (g : FVec Ideal ⟨1, ![2048]⟩ .f32)
    (w : FVec Ideal ⟨2, ![2048, p]⟩ .f32) (i : Fin n) {a b : Fin p} (hab : a.val = b.val) :
    normedDot h g w i a = normedDot h g w i b := by
  rw [Fin.ext hab]

open Cert.Reference2Ideal in
/-- The reference's result, entry by entry. -/
theorem ref_at (m : (ℓ : Loc nD τ sig) → Buf (Elt Ideal) ℓ) (c : Dev nD) (i : Fin 16384) (j : Fin 14336) :
    Cert.Reference2Ideal.Value.res_main_v27 m c (ix2 i j)
      = normedDot (m ((c.tc : Thread nD τ).loc main_arg0)) (m ((c.tc : Thread nD τ).loc main_arg1))
          (m ((c.tc : Thread nD τ).loc main_arg2)) i (col j) := by
  unfold Cert.Reference2Ideal.Value.res_main_v27
  pointwise [normedDot, normed, rmsAt]
  have hj := j.isLt
  split_ifs
  all_goals
    refine dot_col (m (c.tc.loc main_arg0)) (m (c.tc.loc main_arg1)) (m (c.tc.loc main_arg2)) i ?_
    simp only [col, colN]
    split_ifs <;> omega

open Cert.Reference2Ideal in
/-- The reference's result. -/
theorem ref_eq (m : (ℓ : Loc nD τ sig) → Buf (Elt Ideal) ℓ) (c : Dev nD) :
    Cert.Reference2Ideal.Value.res_main_v27 m c
      = ofEntries (φ := .bf16) (fun i j => normedDot (m ((c.tc : Thread nD τ).loc main_arg0)) (m ((c.tc : Thread nD τ).loc main_arg1))
          (m ((c.tc : Thread nD τ).loc main_arg2)) i (col j)) :=
  eq_ofEntries (ref_at m c)

end Cert.Proof.InProj

end
-- ==== Proof.InProj.lean ====
/- What the in-projection call computes. -/
module

public import proofs.«01_k».proof.Proof.Gen.Kernel2Ideal.Frame
public import proofs.«01_k».proof.Proof.InMath

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Idealize.ShloMosaic.Pipeline (Dat)
open Cert.Proof Cert.Proof.InProj

theorem pay1_at (x : Vec Ideal S1024x2048 .f32) (g : Vec Ideal S1x2048 .f32) (r : Fin 1024) (d : Fin 2048) :
    k0_pay1 (F := Ideal) x g (ix2 r d) = rmsAt (fun k => x (ix2 r k)) (g (ix2 (0 : Fin 1) d)) d := by
  pointwise [k0_pay1, rmsAt]

theorem pay2_at (u : Vec Ideal S1024x2048 .bf16) (w : Vec Ideal S2048x2048 .bf16) (r : Fin 1024) (e : Fin 2048) :
    k0_pay2 (F := Ideal) u w (ix2 r e) = ∑ k : Fin 2048, u (ix2 r k) * w (ix2 k e) := by
  pointwise [k0_pay2]

theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

variable (m : (ℓ : Loc nD τ sig) → Buf (Elt Ideal) ℓ)

theorem blk0 (c : Dev nD) (t : Fin cfg0.N) (ht : t.val / 7 < 16) (r : Fin 1024) (d : Fin 2048) :
    iblk m c 0 t (ix2 r d) = m ((c : Thread nD τ).loc main_arg0) (ix2 (⟨t.val / 7 * 1024 + r.val, by omega⟩ : Fin 16384) d) := by
  blk_ext [iblk, V, idx t]

theorem blk1 (c : Dev nD) (t : Fin cfg0.N) (d : Fin 2048) :
    iblk m c 1 t (ix2 (0 : Fin 1) d) = m ((c : Thread nD τ).loc main_arg1) (ix1 d) := by
  blk_point [iblk, V, idx t]

/-- The columns of `w_in` that the call is given, as the host lays them side by side. -/
def gathered (w : FVec Ideal S2048x14752 .f32) : FVec Ideal S2048x14336 .bf16 :=
  truncf .bf16 (concatenate S2048x14336 1
    [⟨S2048x6144, extractStridedSlice S2048x6144 ![0, 0] w slices_S2048x14752_S2048x6144_0_0⟩,
     ⟨S2048x2048, extractStridedSlice S2048x2048 ![0, 6160] w slices_S2048x14752_S2048x2048_0_6160⟩,
     ⟨S2048x2048, extractStridedSlice S2048x2048 ![0, 8464] w slices_S2048x14752_S2048x2048_0_8464⟩,
     ⟨S2048x4096, extractStridedSlice S2048x4096 ![0, 10656] w slices_S2048x14752_S2048x4096_0_10656⟩]
    concatenates_S2048x6144_S2048x2048_S2048x2048_S2048x4096_S2048x14336_d1) bitsLt_bf16_f32

theorem gathered_at (w : FVec Ideal S2048x14752 .f32) (k : Fin 2048) (j : Fin 14336) :
    gathered w (ix2 k j) = w (ix2 k (col j)) := by
  pointwise [gathered]
  have hj := j.isLt
  split_ifs
  all_goals
    refine congrArg (fun e => w (ix2 k e)) (Fin.ext ?_)
    simp only [col, colN]
    split_ifs <;> omega

/-- What the call is given as its weights. -/
theorem weights (c : Dev nD) : (V m c main_v5 : FVec Ideal S2048x14336 .bf16) = gathered (m ((c : Thread nD τ).loc main_arg2)) := by
  unfold V
  after_results_simp
  rfl

theorem blk2 (c : Dev nD) (t : Fin cfg0.N) (ht : t.val % 7 < 7) (k e : Fin 2048) :
    iblk m c 2 t (ix2 k e) = (V m c main_v5 : FVec Ideal S2048x14336 .bf16) (ix2 k (⟨t.val % 7 * 2048 + e.val, by omega⟩ : Fin 14336)) := by
  blk_ext [iblk, idx t]

/-- The row of the array that row `r` of the blocks at point `n` is. -/
def row (n : ℕ) (hn : n < cfg0.N) (r : Fin 1024) : Fin 16384 :=
  ⟨n / 7 * 1024 + r.val, by have h := lt_of_lt_of_eq hn (show cfg0.N = 112 from N_0); omega⟩

/-- The normed rows of point `n`. -/
abbrev rows (c : Dev nD) (n : ℕ) (hn : n < cfg0.N) (r : Fin 1024) (k : Fin 2048) : EReal :=
  normed (m ((c : Thread nD τ).loc main_arg0)) (m ((c : Thread nD τ).loc main_arg1)) (row n hn r) k

theorem norm_block (c : Dev nD) (t : Fin cfg0.N) (r : Fin 1024) (k : Fin 2048) :
    k0_pay1 (F := Ideal) (iblk m c 0 t) (iblk m c 1 t) (ix2 r k) = rows m c t.val t.isLt r k := by
  have h := lt_of_lt_of_eq t.isLt (show cfg0.N = 112 from N_0)
  rw [pay1_at, blk1]
  simp only [blk0 m c t (by omega)]
  rfl

/-- The first point of a row block: the scratch is the normed rows, the output's buffer their product with the weights. -/
theorem leaves_A (c : Dev nD) (t : Fin cfg0.N) (h0 : t.val % 7 = 0) :
    outsAt0 m c t.val t.isLt = (k0_pay2 (F := Ideal) (k0_pay1 (F := Ideal) (iblk m c 0 t) (iblk m c 1 t)) (iblk m c 2 t),
      k0_pay1 (F := Ideal) (iblk m c 0 t) (iblk m c 1 t)) := by
  rw [outsAt0_A m c t h0]
  refine Prod.ext ?_ ?_
  · frame_out
  · frame_out

/-- A later point: the scratch stays. -/
theorem leaves_B (c : Dev nD) (t : Fin cfg0.N) (h0 : ¬t.val % 7 = 0) (o : Vec Ideal S1024x2048 .bf16 × Vec Ideal S1024x2048 .bf16)
    (ho : outsAt0 m c (t.val - 1) (Nat.lt_of_le_of_lt (Nat.sub_le _ _) t.isLt) = o) :
    outsAt0 m c t.val t.isLt = (k0_pay2 (F := Ideal) o.2 (iblk m c 2 t), o.2) := by
  rw [outsAt0_B m c t h0, ho]
  refine Prod.ext ?_ ?_
  · frame_out
    refine congrArg (fun u => k0_pay2 (F := Ideal) u (iblk m c 2 t)) ((Memref.isWhole_whole cc0_scratch0).read_unread (Val := Elt Ideal) o.2)
  · rfl

/-- Every point leaves the normed rows in the scratch and has multiplied them by its weights. -/
theorem carried (c : Dev nD) : ∀ (n : ℕ) (hn : n < cfg0.N),
    (∀ r k, (outsAt0 m c n hn).2 (ix2 r k) = rows m c n hn r k) ∧
    (outsAt0 m c n hn).1 = k0_pay2 (F := Ideal) (outsAt0 m c n hn).2 (iblk m c 2 ⟨n, hn⟩) := by
  have first : ∀ (n : ℕ) (hn : n < cfg0.N), n % 7 = 0 →
      (∀ r k, (outsAt0 m c n hn).2 (ix2 r k) = rows m c n hn r k) ∧
      (outsAt0 m c n hn).1 = k0_pay2 (F := Ideal) (outsAt0 m c n hn).2 (iblk m c 2 ⟨n, hn⟩) := by
    intro n hn h0
    rw [leaves_A m c ⟨n, hn⟩ h0]
    exact ⟨norm_block m c ⟨n, hn⟩, rfl⟩
  intro n
  induction n with
  | zero => exact fun hn => first 0 hn rfl
  | succ n ih =>
    intro hn
    by_cases h0 : (n + 1) % 7 = 0
    · exact first _ hn h0
    · have ih1 := (ih (Nat.lt_of_succ_lt hn)).1
      have same : ∀ r, row n (Nat.lt_of_succ_lt hn) r = row (n + 1) hn r := fun r =>
        Fin.ext (by show n / 7 * 1024 + r.val = (n + 1) / 7 * 1024 + r.val; omega)
      have keep : ∀ r k, (outsAt0 m c n (Nat.lt_of_succ_lt hn)).2 (ix2 r k) = rows m c (n + 1) hn r k := fun r k => by
        rw [ih1 r k]; unfold rows; rw [same r]
      rw [leaves_B m c ⟨n + 1, hn⟩ h0 _ rfl]
      exact ⟨keep, rfl⟩

/-- What a point leaves in the output's buffer. -/
theorem point (c : Dev nD) (t : Fin cfg0.N) (r : Fin 1024) (e : Fin 2048) (ht : t.val % 7 < 7) :
    (outsAt0 m c t.val t.isLt).1 (ix2 r e) = normedDot (m ((c : Thread nD τ).loc main_arg0))
      (m ((c : Thread nD τ).loc main_arg1)) (m ((c : Thread nD τ).loc main_arg2)) (row t.val t.isLt r)
      (col ⟨t.val % 7 * 2048 + e.val, by omega⟩) := by
  obtain ⟨k1, k2⟩ := carried m c t.val t.isLt
  rw [k2, pay2_at]
  unfold normedDot
  refine Finset.sum_congr rfl fun k _ => ?_
  rw [k1 r k, blk2 m c t ht, weights, gathered_at]

/-- The result array after the run. -/
theorem final (c : Dev nD) : (dats m 0 c).arrAt 3 (cfgs 0).N
    = ofEntries (φ := .bf16) (fun i j => normedDot (m ((c : Thread nD τ).loc main_arg0))
      (m ((c : Thread nD τ).loc main_arg1)) (m ((c : Thread nD τ).loc main_arg2)) i (col j)) := by
  refine (dats m 0 c).arrAt_eq_of_covers 3 _ (by decide +kernel) fun t hf y => ?_
  blk_simp
  rw [after0_3]
  obtain ⟨-, -, -, e3⟩ := idx t
  have ht : t.val % 7 < 7 := Nat.mod_lt _ (by decide)
  have e0 : row t.val t.isLt (y 0) = (win0_3.blk t).view.emb y 0 := Fin.ext (by
    show t.val / 7 * 1024 + (y 0).val = win0_3.index t (0 : Fin 2) * 1024 + 1 * (y 0).val
    rw [e3]; simp)
  have hy : t.val % 7 * 2048 + (y 1).val < 14336 := by have h : (y 1).val < 2048 := (y 1).isLt; omega
  have e1 : (⟨t.val % 7 * 2048 + (y 1).val, hy⟩ : Fin 14336) = (win0_3.blk t).view.emb y 1 := Fin.ext (by
    show t.val % 7 * 2048 + (y 1).val = win0_3.index t (1 : Fin 2) * 2048 + 1 * (y 1).val
    rw [e3]; simp)
  refine (congrArg (outsAt0 m c t.val t.isLt).1 (eq_ix2 (n0 := 1024) (n1 := 2048) y)).trans ((point m c t (y 0) (y 1) ht).trans ?_)
  exact congrArg₂ (fun i j => normedDot _ _ _ i (col j)) e0 e1

end Cert.Kernel2Ideal.InProj

end
-- ==== Proof.FfnMath.lean ====
module

public import proofs.«01_k».proof.Proof.Gen.Reference3Ideal.Run
public import proofs.«01_k».proof.Proof.InProj

@[expose] public section

set_option maxRecDepth 16384

noncomputable section

namespace Cert.Proof.Ffn

open Idealize.ShloMosaic Idealize.ShloMosaic.TcCoe Idealize.SL.Sem Cert.Proof

/-- What hidden unit `e` adds to entry `d` of row `i`, before the last norm. -/
def unitAt (h : FVec Ideal ⟨2, ![16384, 2048]⟩ .f32) (g : FVec Ideal ⟨1, ![2048]⟩ .f32)
    (wg wu : FVec Ideal ⟨2, ![2048, 5632]⟩ .f32) (wd : FVec Ideal ⟨2, ![5632, 2048]⟩ .f32) (i : Fin 16384) (d : Fin 2048)
    (e : Fin 5632) : EReal :=
  normedDot h g wg i e * Ideal.logistic (normedDot h g wg i e) * normedDot h g wu i e * wd (ix2 e d)

/-- Entry `(i, d)` of the result: the row plus the norm of the sum over the hidden units. -/
def result (h : FVec Ideal ⟨2, ![16384, 2048]⟩ .f32) (g : FVec Ideal ⟨1, ![2048]⟩ .f32)
    (wg wu : FVec Ideal ⟨2, ![2048, 5632]⟩ .f32) (wd : FVec Ideal ⟨2, ![5632, 2048]⟩ .f32) (p : FVec Ideal ⟨1, ![2048]⟩ .f32)
    (i : Fin 16384) (d : Fin 2048) : EReal :=
  h (ix2 i d) + rmsAt (fun d => ∑ e : Fin 5632, unitAt h g wg wu wd i d e) (p (ix1 d)) d

open Cert.Reference3Ideal in
/-- The reference's result, entry by entry. -/
theorem ref_at (m : (ℓ : Loc nD τ sig) → Buf (Elt Ideal) ℓ) (c : Dev nD) (i : Fin 16384) (d : Fin 2048) :
    Cert.Reference3Ideal.Value.res_main_v31 m c (ix2 i d)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) i d := by
  unfold Cert.Reference3Ideal.Value.res_main_v31
  pointwise [result, unitAt, normedDot, normed, rmsAt, Ideal.logistic]

open Cert.Reference3Ideal in
/-- The reference's result. -/
theorem ref_eq (m : (ℓ : Loc nD τ sig) → Buf (Elt Ideal) ℓ) (c : Dev nD) :
    Cert.Reference3Ideal.Value.res_main_v31 m c
      = ofEntries (φ := .f32) (result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) :=
  eq_ofEntries (ref_at m c)

end Cert.Proof.Ffn

end
-- ==== Proof.Ffn.lean ====
/- What the feed-forward call computes. -/
module

public import proofs.«01_k».proof.Proof.Gen.Kernel3Ideal.Frame
public import proofs.«01_k».proof.Proof.FfnMath

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Idealize.ShloMosaic.Pipeline (Dat)
open Cert.Proof Cert.Proof.Ffn

theorem pay1_at (x : Vec Ideal S1024x2048 .f32) (g : Vec Ideal S1x2048 .f32) (r : Fin 1024) (d : Fin 2048) :
    k0_pay1 (F := Ideal) x g (ix2 r d) = rmsAt (fun k => x (ix2 r k)) (g (ix2 (0 : Fin 1) d)) d := by
  pointwise [k0_pay1, rmsAt]

theorem pay2_at (r : Fin 1024) (d : Fin 2048) : k0_pay2 (F := Ideal) (ix2 r d) = 0 := by
  pointwise [k0_pay2]

theorem pay3_at (u : Vec Ideal S1024x2048 .bf16) (wg wu : Vec Ideal S2048x256 .bf16) (wd : Vec Ideal S256x2048 .bf16)
    (acc : Vec Ideal S1024x2048 .f32) (r : Fin 1024) (d : Fin 2048) :
    k0_pay3 (F := Ideal) u wg wu wd acc (ix2 r d) = acc (ix2 r d) + ∑ e : Fin 256, (∑ k : Fin 2048, u (ix2 r k) * wg (ix2 k e)) *
      Ideal.logistic (∑ k : Fin 2048, u (ix2 r k) * wg (ix2 k e)) * (∑ k : Fin 2048, u (ix2 r k) * wu (ix2 k e)) * wd (ix2 e d) := by
  pointwise [k0_pay3]

theorem pay4_at (h y : Vec Ideal S1024x2048 .f32) (g : Vec Ideal S1x2048 .f32) (r : Fin 1024) (d : Fin 2048) :
    k0_pay4 (F := Ideal) h y g (ix2 r d) = h (ix2 r d) + rmsAt (fun k => y (ix2 r k)) (g (ix2 (0 : Fin 1) d)) d := by
  pointwise [k0_pay4, rmsAt]

theorem idx : ∀ t : Fin cfg0.N, win0_0.index t = ![t.val / 22, 0] ∧ win0_1.index t = ![0, 0] ∧ win0_2.index t = ![0, t.val % 22]
    ∧ win0_3.index t = ![0, t.val % 22] ∧ win0_4.index t = ![t.val % 22, 0] ∧ win0_5.index t = ![0, 0]
    ∧ win0_6.index t = ![t.val / 22, 0] :=
  (by decide +kernel : ∀ t : Fin grid0.N, _)

variable (m : (ℓ : Loc nD τ sig) → Buf (Elt Ideal) ℓ)

theorem blk0 (c : Dev nD) (t : Fin cfg0.N) (ht : t.val / 22 < 16) (r : Fin 1024) (d : Fin 2048) :
    iblk m c 0 t (ix2 r d) = m ((c : Thread nD τ).loc main_arg0) (ix2 (⟨t.val / 22 * 1024 + r.val, by omega⟩ : Fin 16384) d) := by
  blk_ext [iblk, V, idx t]

theorem blk1 (c : Dev nD) (t : Fin cfg0.N) (d : Fin 2048) :
    iblk m c 1 t (ix2 (0 : Fin 1) d) = m ((c : Thread nD τ).loc main_arg1) (ix1 d) := by
  blk_point [iblk, V, idx t]

theorem blk2 (c : Dev nD) (t : Fin cfg0.N) (ht : t.val % 22 < 22) (k : Fin 2048) (e : Fin 256) :
    iblk m c 2 t (ix2 k e) = m ((c : Thread nD τ).loc main_arg2) (ix2 k (⟨256 * (t.val % 22) + e.val, by omega⟩ : Fin 5632)) := by
  blk_point [iblk, V, idx t]

theorem blk3 (c : Dev nD) (t : Fin cfg0.N) (ht : t.val % 22 < 22) (k : Fin 2048) (e : Fin 256) :
    iblk m c 3 t (ix2 k e) = m ((c : Thread nD τ).loc main_arg3) (ix2 k (⟨256 * (t.val % 22) + e.val, by omega⟩ : Fin 5632)) := by
  blk_point [iblk, V, idx t]

theorem blk4 (c : Dev nD) (t : Fin cfg0.N) (ht : t.val % 22 < 22) (e : Fin 256) (d : Fin 2048) :
    iblk m c 4 t (ix2 e d) = m ((c : Thread nD τ).loc main_arg4) (ix2 (⟨256 * (t.val % 22) + e.val, by omega⟩ : Fin 5632) d) := by
  blk_point [iblk, V, idx t]

theorem blk5 (c : Dev nD) (t : Fin cfg0.N) (d : Fin 2048) :
    iblk m c 5 t (ix2 (0 : Fin 1) d) = m ((c : Thread nD τ).loc main_arg5) (ix1 d) := by
  blk_point [iblk, V, idx t]

/-- The row of the array that row `r` of the blocks at point `n` is. -/
def row (n : ℕ) (hn : n < cfg0.N) (r : Fin 1024) : Fin 16384 :=
  ⟨n / 22 * 1024 + r.val, by have h := lt_of_lt_of_eq hn (show cfg0.N = 352 from N_0); omega⟩

/-- `unitAt` of the launch's arrays, at a natural number. -/
def part (c : Dev nD) (i : Fin 16384) (d : Fin 2048) (e : ℕ) : EReal :=
  if h : e < 5632 then unitAt (m ((c : Thread nD τ).loc main_arg0)) (m ((c : Thread nD τ).loc main_arg1))
    (m ((c : Thread nD τ).loc main_arg2)) (m ((c : Thread nD τ).loc main_arg3)) (m ((c : Thread nD τ).loc main_arg4)) i d ⟨e, h⟩ else 0

/-- The normed rows of point `n`. -/
abbrev rows (c : Dev nD) (n : ℕ) (hn : n < cfg0.N) (r : Fin 1024) (k : Fin 2048) : EReal :=
  normed (m ((c : Thread nD τ).loc main_arg0)) (m ((c : Thread nD τ).loc main_arg1)) (row n hn r) k

theorem norm_block (c : Dev nD) (t : Fin cfg0.N) (r : Fin 1024) (k : Fin 2048) :
    k0_pay1 (F := Ideal) (iblk m c 0 t) (iblk m c 1 t) (ix2 r k) = rows m c t.val t.isLt r k := by
  have h := lt_of_lt_of_eq t.isLt (show cfg0.N = 352 from N_0)
  rw [pay1_at, blk1]
  simp only [blk0 m c t (by omega)]
  rfl

theorem add_block (c : Dev nD) (t : Fin cfg0.N) (u : Vec Ideal S1024x2048 .bf16)
    (hu : ∀ r k, u (ix2 r k) = rows m c t.val t.isLt r k) (acc : Vec Ideal S1024x2048 .f32) (r : Fin 1024) (d : Fin 2048) :
    k0_pay3 (F := Ideal) u (iblk m c 2 t) (iblk m c 3 t) (iblk m c 4 t) acc (ix2 r d)
      = acc (ix2 r d) + ∑ e ∈ Finset.range 256, part m c (row t.val t.isLt r) d (256 * (t.val % 22) + e) := by
  have ht : t.val % 22 < 22 := Nat.mod_lt _ (by decide)
  rw [pay3_at, Finset.sum_range]
  refine congrArg _ (Finset.sum_congr rfl fun e _ => ?_)
  simp only [hu, blk2 m c t ht, blk3 m c t ht, blk4 m c t ht]
  unfold part
  rw [dif_pos (by omega)]
  rfl

/-- The first point of a row block: the scratch is the normed rows, the output's buffer the first part over zero. -/
theorem leaves_A (c : Dev nD) (t : Fin cfg0.N) (h0 : t.val % 22 = 0) (h1 : ¬t.val % 22 = 21) :
    outsAt0 m c t.val t.isLt = (k0_pay3 (F := Ideal) (k0_pay1 (F := Ideal) (iblk m c 0 t) (iblk m c 1 t)) (iblk m c 2 t) (iblk m c 3 t)
      (iblk m c 4 t) (k0_pay2 (F := Ideal)), k0_pay1 (F := Ideal) (iblk m c 0 t) (iblk m c 1 t)) := by
  rw [outsAt0_A m c t h0 h1]
  refine Prod.ext ?_ ?_
  · frame_out
  · frame_out

/-- A middle point: the scratch stays, the point's part is added. -/
theorem leaves_B (c : Dev nD) (t : Fin cfg0.N) (h0 : ¬t.val % 22 = 0) (h1 : ¬t.val % 22 = 21) (o : Vec Ideal S1024x2048 .f32 × Vec Ideal S1024x2048 .bf16)
    (ho : outsAt0 m c (t.val - 1) (Nat.lt_of_le_of_lt (Nat.sub_le _ _) t.isLt) = o) :
    outsAt0 m c t.val t.isLt = (k0_pay3 (F := Ideal) o.2 (iblk m c 2 t) (iblk m c 3 t) (iblk m c 4 t) o.1, o.2) := by
  rw [outsAt0_B m c t h0 h1, ho]
  refine Prod.ext ?_ ?_
  · frame_out
    refine congrArg (fun u => k0_pay3 (F := Ideal) u (iblk m c 2 t) (iblk m c 3 t) (iblk m c 4 t) o.1) ((Memref.isWhole_whole cc0_scratch0).read_unread (Val := Elt Ideal) o.2)
  · rfl

/-- The last point: the norm of the sum, over the rows. -/
theorem leaves_C (c : Dev nD) (t : Fin cfg0.N) (h0 : ¬t.val % 22 = 0) (h1 : t.val % 22 = 21) (o : Vec Ideal S1024x2048 .f32 × Vec Ideal S1024x2048 .bf16)
    (ho : outsAt0 m c (t.val - 1) (Nat.lt_of_le_of_lt (Nat.sub_le _ _) t.isLt) = o) :
    outsAt0 m c t.val t.isLt = (k0_pay4 (F := Ideal) (iblk m c 0 t)
      (k0_pay3 (F := Ideal) o.2 (iblk m c 2 t) (iblk m c 3 t) (iblk m c 4 t) o.1) (iblk m c 5 t), o.2) := by
  rw [outsAt0_C m c t h0 h1, ho]
  refine Prod.ext ?_ ?_
  · frame_out
    refine congrArg (fun u => k0_pay4 (F := Ideal) (iblk m c 0 t) (k0_pay3 (F := Ideal) u (iblk m c 2 t) (iblk m c 3 t) (iblk m c 4 t) o.1) (iblk m c 5 t)) ((Memref.isWhole_whole cc0_scratch0).read_unread (Val := Elt Ideal) o.2)
  · rfl

/-- What a point leaves in the scratch and, before the last point of a row block, in the output's buffer. -/
theorem carried (c : Dev nD) : ∀ (n : ℕ) (hn : n < cfg0.N),
    (∀ r k, (outsAt0 m c n hn).2 (ix2 r k) = rows m c n hn r k) ∧
    (n % 22 ≠ 21 → ∀ r d, (outsAt0 m c n hn).1 (ix2 r d)
      = ∑ e ∈ Finset.range (256 * (n % 22 + 1)), part m c (row n hn r) d e) := by
  have first : ∀ (n : ℕ) (hn : n < cfg0.N), n % 22 = 0 →
      (∀ r k, (outsAt0 m c n hn).2 (ix2 r k) = rows m c n hn r k) ∧
      (n % 22 ≠ 21 → ∀ r d, (outsAt0 m c n hn).1 (ix2 r d)
        = ∑ e ∈ Finset.range (256 * (n % 22 + 1)), part m c (row n hn r) d e) := by
    intro n hn h0
    rw [leaves_A m c ⟨n, hn⟩ h0 (by show ¬n % 22 = 21; omega)]
    refine ⟨norm_block m c ⟨n, hn⟩, fun _ r d => ?_⟩
    refine (add_block m c ⟨n, hn⟩ _ (norm_block m c ⟨n, hn⟩) _ r d).trans ?_
    rw [pay2_at, zero_add]
    simp only [h0, Nat.mul_zero, Nat.zero_add, Nat.mul_one]
  intro n
  induction n with
  | zero => exact fun hn => first 0 hn rfl
  | succ n ih =>
    intro hn
    by_cases h0 : (n + 1) % 22 = 0
    · exact first _ hn h0
    · obtain ⟨ih1, ih2⟩ := ih (Nat.lt_of_succ_lt hn)
      have same : ∀ r, row n (Nat.lt_of_succ_lt hn) r = row (n + 1) hn r := fun r =>
        Fin.ext (by show n / 22 * 1024 + r.val = (n + 1) / 22 * 1024 + r.val; omega)
      have keep : ∀ r k, (outsAt0 m c n (Nat.lt_of_succ_lt hn)).2 (ix2 r k) = rows m c (n + 1) hn r k := fun r k => by
        rw [ih1 r k]; unfold rows; rw [same r]
      by_cases h1 : (n + 1) % 22 = 21
      · rw [leaves_C m c ⟨n + 1, hn⟩ h0 h1 _ rfl]
        exact ⟨keep, fun h => absurd h1 h⟩
      · rw [leaves_B m c ⟨n + 1, hn⟩ h0 h1 _ rfl]
        refine ⟨keep, fun _ r d => ?_⟩
        refine (add_block m c ⟨n + 1, hn⟩ _ keep _ r d).trans ?_
        have hs : (outsAt0 m c n (Nat.lt_of_succ_lt hn)).1 (ix2 r d) = _ := ih2 (by omega) r d
        rw [same r] at hs
        refine (congrArg (· + _) hs).trans ?_
        have hm : n % 22 + 1 = (n + 1) % 22 := by omega
        rw [hm, ← Finset.sum_range_add]
        rfl

/-- The whole sum over the hidden units, as the last point's buffer holds it before its norm. -/
theorem sum_parts (c : Dev nD) (i : Fin 16384) (d : Fin 2048) :
    ∑ e ∈ Finset.range 5632, part m c i d e = ∑ e : Fin 5632, unitAt (m ((c : Thread nD τ).loc main_arg0))
      (m ((c : Thread nD τ).loc main_arg1)) (m ((c : Thread nD τ).loc main_arg2)) (m ((c : Thread nD τ).loc main_arg3))
      (m ((c : Thread nD τ).loc main_arg4)) i d e := by
  rw [Finset.sum_range]
  refine Finset.sum_congr rfl fun e _ => ?_
  unfold part
  rw [dif_pos e.isLt]

/-- What the last point of a row block leaves in the output's buffer. -/
theorem last_point (c : Dev nD) (t : Fin cfg0.N) (h1 : t.val % 22 = 21) (r : Fin 1024) (d : Fin 2048) :
    (outsAt0 m c t.val t.isLt).1 (ix2 r d) = result (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (row t.val t.isLt r) d := by
  have ht := lt_of_lt_of_eq t.isLt (show cfg0.N = 352 from N_0)
  have h0 : ¬t.val % 22 = 0 := by omega
  have hp : t.val - 1 < cfg0.N := Nat.lt_of_le_of_lt (Nat.sub_le _ _) t.isLt
  obtain ⟨k1, k2⟩ := carried m c (t.val - 1) hp
  have same : ∀ r, row (t.val - 1) hp r = row t.val t.isLt r := fun r =>
    Fin.ext (by show (t.val - 1) / 22 * 1024 + r.val = t.val / 22 * 1024 + r.val; omega)
  have keep : ∀ r k, (outsAt0 m c (t.val - 1) hp).2 (ix2 r k) = rows m c t.val t.isLt r k := fun r k => by
    rw [k1 r k]; unfold rows; rw [same r]
  rw [leaves_C m c t h0 h1 _ rfl]
  refine (pay4_at _ _ _ r d).trans ?_
  have sums : ∀ d, k0_pay3 (F := Ideal) (outsAt0 m c (t.val - 1) hp).2 (iblk m c 2 t) (iblk m c 3 t) (iblk m c 4 t)
      (outsAt0 m c (t.val - 1) hp).1 (ix2 r d) = ∑ e ∈ Finset.range 5632, part m c (row t.val t.isLt r) d e := fun d => by
    refine (add_block m c t _ keep _ r d).trans ?_
    have hs : (outsAt0 m c (t.val - 1) hp).1 (ix2 r d) = _ := k2 (by omega) r d
    rw [same r, show (t.val - 1) % 22 + 1 = 21 by omega] at hs
    refine (congrArg (· + _) hs).trans ?_
    rw [h1]
    exact (Finset.sum_range_add _ (256 * 21) 256).symm
  simp only [sums, sum_parts]
  rw [blk0 m c t (by omega), blk5]
  rfl

/-- The result array after the run. -/
theorem final (c : Dev nD) : (dats m 0 c).arrAt 6 (cfgs 0).N
    = ofEntries (φ := .f32) (result (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5))) := by
  refine (dats m 0 c).arrAt_eq_of_covers 6 _ (by decide +kernel) fun t hf y => ?_
  blk_simp
  rw [after0_6]
  have h1 := (flush0_6 t).mp hf
  obtain ⟨-, -, -, -, -, -, e6⟩ := idx t
  have e0 : row t.val t.isLt (y 0) = (win0_6.blk t).view.emb y 0 := Fin.ext (by
    show t.val / 22 * 1024 + (y 0).val = win0_6.index t (0 : Fin 2) * 1024 + 1 * (y 0).val
    rw [e6]; simp)
  have e1 : (y 1 : Fin 2048) = (win0_6.blk t).view.emb y 1 := Fin.ext (by
    show (y 1).val = win0_6.index t (1 : Fin 2) * 2048 + 1 * (y 1).val
    rw [e6]; simp)
  refine (congrArg (outsAt0 m c t.val t.isLt).1 (eq_ix2 (n0 := 1024) (n1 := 2048) y)).trans ((last_point m c t h1 (y 0) (y 1)).trans ?_)
  exact congrArg₂ (result _ _ _ _ _ _) e0 e1

end Cert.Kernel3Ideal.Ffn

end
-- ==== Proof.MixMath.lean ====
module

public import proofs.«01_k».proof.Proof.Gen.Reference4Ideal.Run
public import proofs.«01_k».proof.Proof.Ffn

@[expose] public section

set_option maxRecDepth 16384

noncomputable section

namespace Cert.Proof.Mix

open Idealize.ShloMosaic Idealize.ShloMosaic.TcCoe Idealize.SL.Sem Cert.Proof

/-- Entry `(i, e)` of one branch: the gate's column `o + e`, through the logistic function, times the branch's product. -/
def branch (y : FVec Ideal ⟨2, ![16384, 2048]⟩ .bf16) (p : FVec Ideal ⟨2, ![16384, 14336]⟩ .bf16)
    (w : FVec Ideal ⟨2, ![2048, 2048]⟩ .f32) (i : Fin 16384) (o : Fin 14336) (e : Fin 2048) : EReal :=
  Ideal.logistic (p (ix2 i o)) * ∑ k : Fin 2048, y (ix2 i k) * w (ix2 k e)

/-- Entry `(i, d)` of the result: the row plus the norm of the merged branches' product with the last weights. -/
def result (yg yd : FVec Ideal ⟨2, ![16384, 2048]⟩ .bf16) (p : FVec Ideal ⟨2, ![16384, 14336]⟩ .bf16)
    (wg wd wm : FVec Ideal ⟨2, ![2048, 2048]⟩ .f32) (g : FVec Ideal ⟨1, ![2048]⟩ .f32)
    (h : FVec Ideal ⟨2, ![16384, 2048]⟩ .f32) (i : Fin 16384) (d : Fin 2048) : EReal :=
  h (ix2 i d) + rmsAt (fun d => ∑ e : Fin 2048, (branch yg p wg i ⟨10240 + e.val, by omega⟩ e
    + branch yd p wd i ⟨12288 + e.val, by omega⟩ e) * wm (ix2 e d)) (g (ix1 d)) d

open Cert.Reference4Ideal in
/-- The reference's result, entry by entry. -/
theorem ref_at (m : (ℓ : Loc nD τ sig) → Buf (Elt Ideal) ℓ) (c : Dev nD) (i : Fin 16384) (d : Fin 2048) :
    Cert.Reference4Ideal.Value.res_main_v36 m c (ix2 i d)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) i d := by
  unfold Cert.Reference4Ideal.Value.res_main_v36
  pointwise [result, branch, rmsAt, Ideal.logistic]

open Cert.Reference4Ideal in
/-- The reference's result. -/
theorem ref_eq (m : (ℓ : Loc nD τ sig) → Buf (Elt Ideal) ℓ) (c : Dev nD) :
    Cert.Reference4Ideal.Value.res_main_v36 m c
      = ofEntries (φ := .f32) (result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))) :=
  eq_ofEntries (ref_at m c)

end Cert.Proof.Mix

end
-- ==== Proof.Mix.lean ====
/- What the call that merges the two branches computes. -/
module

public import proofs.«01_k».proof.Proof.Gen.Kernel4Ideal.Frame
public import proofs.«01_k».proof.Proof.MixMath

@[expose] public section

set_option maxRecDepth 16384

noncomputable section

namespace Cert.Kernel4Ideal.Mix

open Cert.Kernel4Ideal Cert.Kernel4Ideal.Gen Idealize.ShloMosaic Idealize.ShloMosaic.TcCoe Idealize.SL.Sem
open Idealize.ShloMosaic.Pipeline (Dat)
open Cert.Proof Cert.Proof.Mix

/-- The block a point writes, as the body's arithmetic over the point's input blocks. -/
theorem out_eq (x0 x1 x2 x3 : Vec Ideal S256x2048 .bf16) (x4 x5 x6 : Vec Ideal S2048x2048 .bf16)
    (x7 : Vec Ideal S1x2048 .f32) (x8 : Vec Ideal S256x2048 .f32) :
    out0_9 (F := Ideal) x0 x1 x2 x3 x4 x5 x6 x7 x8
      = k0_pay1 (F := Ideal) x8 (k0_pay2 (F := Ideal) x0 x4 x1 x5 x2 x3 x6) (k0_pay3 (F := Ideal) x7) := by
  frame_out

theorem pay_at (x0 x1 x2 x3 : Vec Ideal S256x2048 .bf16) (x4 x5 x6 : Vec Ideal S2048x2048 .bf16)
    (x7 : Vec Ideal S1x2048 .f32) (x8 : Vec Ideal S256x2048 .f32) (r : Fin 256) (d : Fin 2048) :
    k0_pay1 (F := Ideal) x8 (k0_pay2 (F := Ideal) x0 x4 x1 x5 x2 x3 x6) (k0_pay3 (F := Ideal) x7) (ix2 r d)
      = x8 (ix2 r d) + rmsAt (fun d => ∑ e : Fin 2048,
          (Ideal.logistic (x2 (ix2 r e)) * (∑ k : Fin 2048, x0 (ix2 r k) * x4 (ix2 k e))
            + Ideal.logistic (x3 (ix2 r e)) * (∑ k : Fin 2048, x1 (ix2 r k) * x5 (ix2 k e))) * x6 (ix2 e d))
          (x7 (ix2 (0 : Fin 1) d)) d := by
  pointwise [k0_pay1, k0_pay2, k0_pay3, rmsAt]

theorem idx : ∀ t : Fin cfg0.N, win0_0.index t = ![t.val, 0] ∧ win0_1.index t = ![t.val, 0] ∧ win0_2.index t = ![t.val, 5]
    ∧ win0_3.index t = ![t.val, 6] ∧ win0_4.index t = ![0, 0] ∧ win0_5.index t = ![0, 0] ∧ win0_6.index t = ![0, 0]
    ∧ win0_7.index t = ![0, 0] ∧ win0_8.index t = ![t.val, 0] ∧ win0_9.index t = ![t.val, 0] :=
  (by decide +kernel : ∀ t : Fin grid0.N, _)

variable (m : (ℓ : Loc nD τ sig) → Buf (Elt Ideal) ℓ)

/-- The row of the arrays that row `r` of the blocks at point `t` is. -/
def row (t : Fin cfg0.N) (r : Fin 256) : Fin 16384 :=
  ⟨t.val * 256 + r.val, by have h := lt_of_lt_of_eq t.isLt (show cfg0.N = 64 from N_0); omega⟩

theorem blk0 (c : Dev nD) (t : Fin cfg0.N) (r : Fin 256) (d : Fin 2048) :
    iblk m c 0 t (ix2 r d) = m ((c : Thread nD τ).loc main_arg0) (ix2 (row t r) d) := by
  unfold row
  blk_ext [iblk, V, idx t]

theorem blk1 (c : Dev nD) (t : Fin cfg0.N) (r : Fin 256) (d : Fin 2048) :
    iblk m c 1 t (ix2 r d) = m ((c : Thread nD τ).loc main_arg1) (ix2 (row t r) d) := by
  unfold row
  blk_ext [iblk, V, idx t]

theorem blk2 (c : Dev nD) (t : Fin cfg0.N) (r : Fin 256) (d : Fin 2048) :
    iblk m c 2 t (ix2 r d) = m ((c : Thread nD τ).loc main_arg2) (ix2 (row t r) (⟨10240 + d.val, by omega⟩ : Fin 14336)) := by
  unfold row
  blk_ext [iblk, V, idx t]

theorem blk3 (c : Dev nD) (t : Fin cfg0.N) (r : Fin 256) (d : Fin 2048) :
    iblk m c 3 t (ix2 r d) = m ((c : Thread nD τ).loc main_arg2) (ix2 (row t r) (⟨12288 + d.val, by omega⟩ : Fin 14336)) := by
  unfold row
  blk_ext [iblk, V, idx t]

theorem blk4 (c : Dev nD) (t : Fin cfg0.N) (k e : Fin 2048) :
    iblk m c 4 t (ix2 k e) = m ((c : Thread nD τ).loc main_arg3) (ix2 k e) := by
  blk_point [iblk, V, idx t]

theorem blk5 (c : Dev nD) (t : Fin cfg0.N) (k e : Fin 2048) :
    iblk m c 5 t (ix2 k e) = m ((c : Thread nD τ).loc main_arg4) (ix2 k e) := by
  blk_point [iblk, V, idx t]

theorem blk6 (c : Dev nD) (t : Fin cfg0.N) (k e : Fin 2048) :
    iblk m c 6 t (ix2 k e) = m ((c : Thread nD τ).loc main_arg5) (ix2 k e) := by
  blk_point [iblk, V, idx t]

theorem blk7 (c : Dev nD) (t : Fin cfg0.N) (d : Fin 2048) :
    iblk m c 7 t (ix2 (0 : Fin 1) d) = m ((c : Thread nD τ).loc main_arg6) (ix1 d) := by
  blk_point [iblk, V, idx t]

theorem blk8 (c : Dev nD) (t : Fin cfg0.N) (r : Fin 256) (d : Fin 2048) :
    iblk m c 8 t (ix2 r d) = m ((c : Thread nD τ).loc main_arg7) (ix2 (row t r) d) := by
  unfold row
  blk_ext [iblk, V, idx t]

/-- What a point leaves in the output's buffer. -/
theorem point (c : Dev nD) (t : Fin cfg0.N) (r : Fin 256) (d : Fin 2048) :
    out0_9 (F := Ideal) (iblk m c 0 t) (iblk m c 1 t) (iblk m c 2 t) (iblk m c 3 t) (iblk m c 4 t) (iblk m c 5 t) (iblk m c 6 t)
        (iblk m c 7 t) (iblk m c 8 t) (ix2 r d)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (row t r) d := by
  rw [out_eq, pay_at]
  simp only [blk0, blk1, blk2, blk3, blk4, blk5, blk6, blk7, blk8]
  rfl

/-- The result array after the run. -/
theorem final (c : Dev nD) : (dats m 0 c).arrAt 9 (cfgs 0).N
    = ofEntries (φ := .f32) (result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))) := by
  refine (dats m 0 c).arrAt_eq_of_covers 9 _ (by decide +kernel) fun t hf y => ?_
  blk_simp
  rw [after0_9]
  obtain ⟨-, -, -, -, -, -, -, -, -, e9⟩ := idx t
  have e0 : row t (y 0) = (win0_9.blk t).view.emb y 0 := Fin.ext (by
    show t.val * 256 + (y 0).val = win0_9.index t (0 : Fin 2) * 256 + 1 * (y 0).val
    rw [e9]; simp)
  have e1 : (y 1 : Fin 2048) = (win0_9.blk t).view.emb y 1 := Fin.ext (by
    show (y 1).val = win0_9.index t (1 : Fin 2) * 2048 + 1 * (y 1).val
    rw [e9]; simp)
  refine (congrArg (out0_9 (F := Ideal) _ _ _ _ _ _ _ _ _) (eq_ix2 (n0 := 256) (n1 := 2048) y)).trans ((point m c t (y 0) (y 1)).trans ?_)
  exact congrArg₂ (result _ _ _ _ _ _ _ _) e0 e1

end Cert.Kernel4Ideal.Mix

end
-- ==== Proof.XaMath.lean ====
module

public import proofs.«01_k».proof.Proof.Gen.Reference5Ideal.Run
public import proofs.«01_k».proof.Proof.Mix

@[expose] public section

set_option maxRecDepth 16384

noncomputable section

namespace Cert.Proof.Xa

open Idealize.ShloMosaic Idealize.ShloMosaic.TcCoe Idealize.SL.Sem Cert.Proof

/-- The largest of the logits. -/
def top (l : Fin 256 → EReal) : EReal := Finset.univ.fold max (Ideal.ofBits .f32 0xFF800000#32) l

/-- The exponential of logit `m` less the largest. -/
def weight (l : Fin 256 → EReal) (m : Fin 256) : EReal := Ideal.exp (l m - top l)

/-- The softmax of the logits at `m`. -/
def soft (l : Fin 256 → EReal) (m : Fin 256) : EReal := Ideal.div (weight l m) (∑ n : Fin 256, weight l n)

/-- The logits of one head's query `q` against its keys `k`. -/
def logits (q : Fin 512 → EReal) (k : Fin 256 → Fin 512 → EReal) (m : Fin 256) : EReal :=
  (∑ e : Fin 512, q e * k m e) * Ideal.ofBits .f32 0x3D3504F3#32

/-- Column `o + e` of a matrix with 2048 columns. -/
def at_ (o : ℕ) (ho : o < 4) (e : Fin 512) : Fin 2048 := ⟨o * 512 + e.val, by omega⟩

/-- What a query row `q` reads at column `e` of head `o`: the values there, weighted by the softmax of the head's logits. -/
def reads (q : Fin 2048 → EReal) (k v : Fin 256 → Fin 2048 → EReal) (o : ℕ) (ho : o < 4) (e : Fin 512) : EReal :=
  ∑ m : Fin 256, soft (logits (fun e => q (at_ o ho e)) fun m e => k m (at_ o ho e)) m * v m (at_ o ho e)

/-- What a query row `q` reads at column `j`: the four heads' columns side by side. -/
def readsAt (q : Fin 2048 → EReal) (k v : Fin 256 → Fin 2048 → EReal) (j : Fin 2048) : EReal :=
  reads q k v (j.val / 512) (by omega) ⟨j.val % 512, by omega⟩

theorem readsAt_eq (q : Fin 2048 → EReal) (k v : Fin 256 → Fin 2048 → EReal) (j : Fin 2048) (o : ℕ) (ho : o < 4) (e : Fin 512)
    (h : j.val = o * 512 + e.val) : readsAt q k v j = reads q k v o ho e := by
  have key : ∀ (o' : ℕ) (ho' : o' < 4) (e' : Fin 512), o' = o → e' = e → reads q k v o' ho' e' = reads q k v o ho e := by
    intro o' ho' e' h1 h2
    subst h1 h2
    rfl
  exact key _ _ _ (by omega) (Fin.ext (by show j.val % 512 = e.val; omega))

/-- Entry `(i, j)` of the attention's output. -/
def attended (h : FVec Ideal ⟨2, ![16384, 2048]⟩ .f32) (g : FVec Ideal ⟨1, ![2048]⟩ .f32)
    (wq : FVec Ideal ⟨2, ![2048, 2048]⟩ .f32) (kv : FVec Ideal ⟨3, ![2, 256, 4096]⟩ .bf16) (i : Fin 16384) (j : Fin 2048) : EReal :=
  readsAt (normedDot h g wq i)
    (fun m e => kv (ix3 (⟨i.val / 8192, by omega⟩ : Fin 2) m (⟨e.val, by omega⟩ : Fin 4096)))
    (fun m e => kv (ix3 (⟨i.val / 8192, by omega⟩ : Fin 2) m (⟨2048 + e.val, by omega⟩ : Fin 4096))) j

/-- Entry `(i, d)` of the result: the row plus the norm of the attention's output times the last weights. -/
def result (h : FVec Ideal ⟨2, ![16384, 2048]⟩ .f32) (g : FVec Ideal ⟨1, ![2048]⟩ .f32)
    (wq : FVec Ideal ⟨2, ![2048, 2048]⟩ .f32) (kv : FVec Ideal ⟨3, ![2, 256, 4096]⟩ .bf16)
    (wo : FVec Ideal ⟨2, ![2048, 2048]⟩ .f32) (pg : FVec Ideal ⟨1, ![2048]⟩ .f32) (i : Fin 16384) (d : Fin 2048) : EReal :=
  h (ix2 i d) + rmsAt (fun d => ∑ j : Fin 2048, attended h g wq kv i j * wo (ix2 j d)) (pg (ix1 d)) d

section
open Cert.Reference5Ideal Cert.Reference5Ideal.Gen

/-- The rows of `h` normed, as the reference writes it. -/
def unit (h : FVec Ideal S16384x2048 .f32) (g : FVec Ideal S2048 .f32) : FVec Ideal S16384x2048 .f32 :=
  mulf (mulf h (broadcastInDim S16384x2048 ![0, 1] bcast_S16384x1_S16384x2048_0_1
      (Host.rsqrt (addf (Host.divf (broadcastInDim S16384x1 ![0] bcast_S16384_S16384x1_0
          (Host.reduceAdd (mulf h h) (constant S_ .f32 0x00000000#32) reducesTo_S16384x2048_S16384_d1 h_S_))
        (broadcastInDim S16384x1 ![] bcast_S_S16384x1 (constant S_ .f32 0x45000000#32)))
      (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- A product with a square matrix, as the reference writes it. -/
def times (u : FVec Ideal S16384x2048 .f32) (w : FVec Ideal S2048x2048 .f32) : FVec Ideal S16384x2048 .f32 :=
  Host.dotGeneral dot_S16384x2048_S2048x2048_S16384x2048_1_0_0_1_n_n none u w

/-- The scaled logits, as the reference writes them. -/
def scores (q : FVec Ideal S16384x2048 .f32) (kv : FVec Ideal S2x256x4096 .bf16) : FVec Ideal S2x4x8192x256 .f32 :=
  mulf (Host.dotGeneral dot_S2x8192x4x512_S2x256x4x512_S2x4x8192x256_3_3_1_1_02_02 none
      (shapeCast _ q shapeCasts_S16384x2048_S2x8192x4x512)
      (shapeCast _ (extractStridedSlice S2x256x2048 ![0, 0, 0] (extf .f32 kv bitsLt_bf16_f32) slices_S2x256x4096_S2x256x2048_0_0_0)
        shapeCasts_S2x256x2048_S2x256x4x512))
    (broadcastInDim S2x4x8192x256 ![] bcast_S_S2x4x8192x256 (constant S_ .f32 0x3D3504F3#32))

/-- The largest logit of every row, as the reference writes it. -/
def tops (l : FVec Ideal S2x4x8192x256 .f32) : FVec Ideal S2x4x8192 .f32 :=
  Host.reduce FloatOps.maximumf l (constant S_ .f32 0xFF800000#32) reducesTo_S2x4x8192x256_S2x4x8192_d3 h_S_

/-- The exponentials of the logits less the row's largest, as the reference writes them. -/
def exps (l : FVec Ideal S2x4x8192x256 .f32) (u : FVec Ideal S2x4x8192 .f32) : FVec Ideal S2x4x8192x256 .f32 :=
  Host.exp (subf l (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) u))))

/-- The exponentials over their row's sum, as the reference writes it. -/
def shares (w : FVec Ideal S2x4x8192x256 .f32) : FVec Ideal S2x4x8192x256 .f32 :=
  Host.divf w (broadcastInDim S2x4x8192x256 ![0, 1, 2, 3] bcast_S2x4x8192x1_S2x4x8192x256_0_1_2_3
    (broadcastInDim S2x4x8192x1 ![0, 1, 2] bcast_S2x4x8192_S2x4x8192x1_0_1_2
      (Host.reduceAdd w (constant S_ .f32 0x00000000#32) reducesTo_S2x4x8192x256_S2x4x8192_d3 h_S_)))

/-- The softmax of the logits, as the reference writes it. -/
def soften (l : FVec Ideal S2x4x8192x256 .f32) : FVec Ideal S2x4x8192x256 .f32 := shares (exps l (tops l))

/-- The values weighted and laid out by token, as the reference writes it. -/
def mixed (p : FVec Ideal S2x4x8192x256 .f32) (kv : FVec Ideal S2x256x4096 .bf16) : FVec Ideal S16384x2048 .f32 :=
  shapeCast _ (transpose S2x8192x4x512 [0, 3, 1, 2]
    (Host.dotGeneral dot_S2x256x4x512_S2x4x8192x256_S2x4x512x8192_1_3_3_2_02_01 none
      (shapeCast _ (extractStridedSlice S2x256x2048 ![0, 0, 2048] (extf .f32 kv bitsLt_bf16_f32) slices_S2x256x4096_S2x256x2048_0_0_2048)
        shapeCasts_S2x256x2048_S2x256x4x512) p)
    transposes_S2x4x512x8192_S2x8192x4x512_0_3_1_2) shapeCasts_S2x8192x4x512_S16384x2048

theorem unit_at (h : FVec Ideal S16384x2048 .f32) (g : FVec Ideal S2048 .f32) (i : Fin 16384) (d : Fin 2048) :
    unit h g (ix2 i d) = normed h g i d := by
  pointwise [unit, normed, rmsAt]

theorem times_at (u : FVec Ideal S16384x2048 .f32) (w : FVec Ideal S2048x2048 .f32) (i : Fin 16384) (d : Fin 2048) :
    times u w (ix2 i d) = ∑ k : Fin 2048, u (ix2 i k) * w (ix2 k d) := by
  pointwise [times]

theorem scores_at (q : FVec Ideal S16384x2048 .f32) (kv : FVec Ideal S2x256x4096 .bf16) (b : Fin 2) (a : Fin 4) (s : Fin 8192)
    (n : Fin 256) : scores q kv (ix4 b a s n)
      = logits (fun e => q (ix2 (⟨b.val * 8192 + s.val, by omega⟩ : Fin 16384) (at_ a.val a.isLt e)))
          (fun n e => kv (ix3 b n (⟨(at_ a.val a.isLt e).val, by omega⟩ : Fin 4096))) n := by
  pointwise [scores, logits, at_]

theorem tops_at (l : FVec Ideal S2x4x8192x256 .f32) (b : Fin 2) (a : Fin 4) (s : Fin 8192) :
    tops l (ix3 b a s) = top fun n => l (ix4 b a s n) := by
  pointwise [tops]
  rfl

theorem exps_at (l : FVec Ideal S2x4x8192x256 .f32) (b : Fin 2) (a : Fin 4) (s : Fin 8192) (n : Fin 256) :
    exps l (tops l) (ix4 b a s n) = weight (fun n => l (ix4 b a s n)) n := by
  have e : ∀ u : FVec Ideal S2x4x8192 .f32, exps l u (ix4 b a s n)
      = Ideal.exp (l (ix4 b a s n) - max (Ideal.ofBits .f32 0xFF800000#32) (u (ix3 b a s))) := by
    intro u
    pointwise [exps]
  rw [e, tops_at]
  unfold weight
  rw [max_eq_right (show Ideal.ofBits .f32 0xFF800000#32 ≤ top (fun n => l (ix4 b a s n)) from (Finset.le_fold_max _).2 (Or.inl le_rfl))]

theorem shares_at (w : FVec Ideal S2x4x8192x256 .f32) (b : Fin 2) (a : Fin 4) (s : Fin 8192) (n : Fin 256) :
    shares w (ix4 b a s n) = Ideal.div (w (ix4 b a s n)) (∑ n : Fin 256, w (ix4 b a s n)) := by
  pointwise [shares]

theorem soften_at (l : FVec Ideal S2x4x8192x256 .f32) (b : Fin 2) (a : Fin 4) (s : Fin 8192) (n : Fin 256) :
    soften l (ix4 b a s n) = soft (fun n => l (ix4 b a s n)) n := by
  unfold soften soft
  rw [shares_at]
  simp only [exps_at]

theorem mixed_at (p : FVec Ideal S2x4x8192x256 .f32) (kv : FVec Ideal S2x256x4096 .bf16) (i : Fin 16384) (j : Fin 2048) :
    mixed p kv (ix2 i j) = ∑ n : Fin 256,
      p (ix4 (⟨i.val / 8192, by omega⟩ : Fin 2) (⟨j.val / 512, by omega⟩ : Fin 4) (⟨i.val % 8192, by omega⟩ : Fin 8192) n)
        * kv (ix3 (⟨i.val / 8192, by omega⟩ : Fin 2) n (⟨2048 + j.val, by omega⟩ : Fin 4096)) := by
  pointwise [mixed]
  exact Finset.sum_congr rfl fun _ _ => mul_comm _ _

/-- The attention's output, as the reference writes it, entry by entry. -/
theorem output_at (h : FVec Ideal S16384x2048 .f32) (g : FVec Ideal S2048 .f32) (wq : FVec Ideal S2048x2048 .f32)
    (kv : FVec Ideal S2x256x4096 .bf16) (i : Fin 16384) (j : Fin 2048) :
    mixed (soften (scores (times (unit h g) wq) kv)) kv (ix2 i j) = attended h g wq kv i j := by
  rw [mixed_at]
  have hi : (⟨i.val / 8192 * 8192 + i.val % 8192, by omega⟩ : Fin 16384) = i :=
    Fin.ext (by show i.val / 8192 * 8192 + i.val % 8192 = i.val; omega)
  have hj : at_ (j.val / 512) (by omega) ⟨j.val % 512, by omega⟩ = j := Fin.ext (by show j.val / 512 * 512 + j.val % 512 = j.val; omega)
  unfold attended readsAt reads
  refine Finset.sum_congr rfl fun n _ => ?_
  simp only [soften_at, scores_at, times_at, unit_at, hi, hj]
  rfl

/-- The result, as the reference writes it, entry by entry. -/
theorem whole_at (h : FVec Ideal S16384x2048 .f32) (g : FVec Ideal S2048 .f32) (wq : FVec Ideal S2048x2048 .f32)
    (kv : FVec Ideal S2x256x4096 .bf16) (wo : FVec Ideal S2048x2048 .f32) (pg : FVec Ideal S2048 .f32) (i : Fin 16384)
    (d : Fin 2048) :
    addf h (unit (times (mixed (soften (scores (times (unit h g) wq) kv)) kv) wo) pg) (ix2 i d) = result h g wq kv wo pg i d := by
  refine congrArg (fun z : EReal => h (ix2 i d) + z) ?_
  rw [unit_at]
  unfold normed
  simp only [times_at, output_at]

/-- The reference's result is made of these. -/
theorem ref_parts (m : (ℓ : Loc nD τ sig) → Buf (Elt Ideal) ℓ) (c : Dev nD) :
    Cert.Reference5Ideal.Value.res_main_v51 m c
      = addf (m ((c.tc : Thread nD τ).loc main_arg0)) (unit (times (mixed (soften (scores (times (unit
          (m ((c.tc : Thread nD τ).loc main_arg0)) (m ((c.tc : Thread nD τ).loc main_arg1))) (m ((c.tc : Thread nD τ).loc main_arg2)))
            (m ((c.tc : Thread nD τ).loc main_arg3)))) (m ((c.tc : Thread nD τ).loc main_arg3)))
              (m ((c.tc : Thread nD τ).loc main_arg4))) (m ((c.tc : Thread nD τ).loc main_arg5))) := rfl

/-- The reference's result. -/
theorem ref_eq (m : (ℓ : Loc nD τ sig) → Buf (Elt Ideal) ℓ) (c : Dev nD) :
    Cert.Reference5Ideal.Value.res_main_v51 m c
      = ofEntries (φ := .f32) (result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))) := by
  refine (ref_parts m c).trans (eq_ofEntries fun i d => whole_at _ _ _ _ _ _ i d)

end

end Cert.Proof.Xa

end
-- ==== Proof.Xa.lean ====
/- What the cross attention's call computes. -/
module

public import proofs.«01_k».proof.Proof.Gen.Kernel5Ideal.Frame
public import proofs.«01_k».proof.Proof.XaMath

@[expose] public section

set_option maxRecDepth 16384

noncomputable section

namespace Cert.Kernel5Ideal.Xa

open Cert.Kernel5Ideal Cert.Kernel5Ideal.Gen Idealize.ShloMosaic Idealize.ShloMosaic.TcCoe Idealize.SL.Sem
open Idealize.ShloMosaic.Pipeline (Dat)
open Cert.Proof Cert.Proof.Xa

theorem pay2_at (x : Vec Ideal S512x2048 .f32) (g : Vec Ideal S1x2048 .f32) (w : Vec Ideal S2048x2048 .bf16) (r : Fin 512) (e : Fin 2048) :
    k0_pay2 (F := Ideal) x g w (ix2 r e)
      = ∑ k : Fin 2048, rmsAt (fun k => x (ix2 r k)) (g (ix2 (0 : Fin 1) k)) k * w (ix2 k e) := by
  pointwise [k0_pay2, rmsAt]

theorem pay3_at (x : Vec Ideal S512x2048 .f32) (g : Vec Ideal S1x2048 .f32) (w : Vec Ideal S2048x2048 .bf16)
    (k : Vec Ideal S1x256x2048 .bf16) (r : Fin 512) (n : Fin 256) :
    k0_pay3 (F := Ideal) x g w k (ix2 r n)
      = soft (logits (fun e => k0_pay2 (F := Ideal) x g w (ix2 r (at_ 0 (by omega) e)))
          fun n e => k (ix3 (0 : Fin 1) n (at_ 0 (by omega) e))) n := by
  pointwise [k0_pay3, soft, weight, top, logits, at_]

theorem pay4_at (p : FVec Ideal S512x256 .bf16) (v : Vec Ideal S1x256x2048 .bf16) (r : Fin 512) (e : Fin 512) :
    k0_pay4 (F := Ideal) p v (ix2 r e) = ∑ n : Fin 256, p (ix2 r n) * v (ix3 (0 : Fin 1) n (at_ 0 (by omega) e)) := by
  pointwise [k0_pay4, at_]

theorem pay5_at (q : FVec Ideal S512x2048 .bf16) (k v : Vec Ideal S1x256x2048 .bf16) (r : Fin 512) (e : Fin 512) :
    k0_pay5 (F := Ideal) q k v (ix2 r e)
      = reads (fun j => q (ix2 r j)) (fun n j => k (ix3 (0 : Fin 1) n j)) (fun n j => v (ix3 (0 : Fin 1) n j)) 1 (by omega) e := by
  pointwise [k0_pay5, reads, soft, weight, top, logits, at_]

theorem pay6_at (q : FVec Ideal S512x2048 .bf16) (k : Vec Ideal S1x256x2048 .bf16) (r : Fin 512) (n : Fin 256) :
    k0_pay6 (F := Ideal) q k (ix2 r n)
      = weight (logits (fun e => q (ix2 r (at_ 2 (by omega) e))) fun n e => k (ix3 (0 : Fin 1) n (at_ 2 (by omega) e))) n := by
  pointwise [k0_pay6, weight, top, logits, at_]

theorem pay7_at (q : FVec Ideal S512x2048 .bf16) (k : Vec Ideal S1x256x2048 .bf16) (r : Fin 512) (n : Fin 256) :
    k0_pay7 (F := Ideal) q k (ix2 r n) = ∑ n : Fin 256, k0_pay6 (F := Ideal) q k (ix2 r n) := by
  pointwise [k0_pay7]

/-- The product with the last weights reads the four heads side by side, if its first three arguments hold the first heads' parts. -/
theorem pay8_at (q : FVec Ideal S512x2048 .bf16) (a b : FVec Ideal S512x512 .bf16) (x y : FVec Ideal S512x256 .f32)
    (v k : Vec Ideal S1x256x2048 .bf16) (w : Vec Ideal S2048x2048 .bf16) (r : Fin 512) (d : Fin 2048)
    (ha : ∀ e, a (ix2 r e) = reads (fun j => q (ix2 r j)) (fun n j => k (ix3 (0 : Fin 1) n j)) (fun n j => v (ix3 (0 : Fin 1) n j)) 0 (by omega) e)
    (hb : ∀ e, b (ix2 r e) = reads (fun j => q (ix2 r j)) (fun n j => k (ix3 (0 : Fin 1) n j)) (fun n j => v (ix3 (0 : Fin 1) n j)) 1 (by omega) e)
    (hx : ∀ n, Ideal.div (x (ix2 r n)) (y (ix2 r n)) = soft (logits (fun e => q (ix2 r (at_ 2 (by omega) e))) fun n e => k (ix3 (0 : Fin 1) n (at_ 2 (by omega) e))) n) :
    k0_pay8 (F := Ideal) q a b x y v k v w (ix2 r d)
      = ∑ j : Fin 2048, readsAt (fun j => q (ix2 r j)) (fun n j => k (ix3 (0 : Fin 1) n j)) (fun n j => v (ix3 (0 : Fin 1) n j)) j * w (ix2 j d) := by
  pointwise [k0_pay8]
  refine Finset.sum_congr rfl fun j _ => ?_
  refine congrArg (fun z : EReal => z * w (ix2 j d)) ?_
  by_cases h1 : j.val < 512
  · rw [dif_pos h1, readsAt_eq _ _ _ j 0 (by omega) ⟨j.val, h1⟩ (by show j.val = 0 * 512 + j.val; omega)]
    exact ha _
  rw [dif_neg h1]
  by_cases h2 : j.val - 512 < 512
  · rw [dif_pos h2, readsAt_eq _ _ _ j 1 (by omega) ⟨j.val - 512, h2⟩ (by show j.val = 1 * 512 + (j.val - 512); omega)]
    exact hb _
  rw [dif_neg h2]
  by_cases h3 : j.val - 512 - 512 < 512
  · rw [dif_pos h3, readsAt_eq _ _ _ j 2 (by omega) ⟨j.val - 512 - 512, h3⟩ (by show j.val = 2 * 512 + (j.val - 512 - 512); omega)]
    exact Finset.sum_congr rfl fun n _ => congrArg (fun z : EReal => z * _) (hx n)
  rw [dif_neg h3, readsAt_eq _ _ _ j 3 (by omega) ⟨j.val - 512 - 512 - 512, by omega⟩
    (by show j.val = 3 * 512 + (j.val - 512 - 512 - 512); omega)]
  pointwise [reads, soft, weight, top, logits, at_]

theorem pay1_at (h y : FVec Ideal S512x2048 .f32) (g : Vec Ideal S1x2048 .f32) (s : FVec Ideal S512x1 .f32) (r : Fin 512) (d : Fin 2048)
    (hs : s (ix2 r (0 : Fin 1)) = ∑ k : Fin 2048, y (ix2 r k) * y (ix2 r k)) :
    k0_pay1 (F := Ideal) h y (k0_pay9 (F := Ideal) g) s (Scalar.ofBits .f32 0x45000000#32) (ix2 r d)
      = h (ix2 r d) + rmsAt (fun d => y (ix2 r d)) (g (ix2 (0 : Fin 1) d)) d := by
  unfold rmsAt
  rw [← hs]
  pointwise [k0_pay1, k0_pay9]

theorem pay10_at (q : FVec Ideal S512x2048 .bf16) (a b : FVec Ideal S512x512 .bf16) (x y : FVec Ideal S512x256 .f32)
    (v k v' : Vec Ideal S1x256x2048 .bf16) (w : Vec Ideal S2048x2048 .bf16) (r : Fin 512) :
    k0_pay10 (F := Ideal) q a b x y v k v' w (ix2 r (0 : Fin 1))
      = ∑ d : Fin 2048, k0_pay8 (F := Ideal) q a b x y v k v' w (ix2 r d) * k0_pay8 (F := Ideal) q a b x y v k v' w (ix2 r d) := by
  pointwise [k0_pay10]

/-- The queries of a block. -/
abbrev queries (x0 : Vec Ideal S512x2048 .f32) (x1 : Vec Ideal S1x2048 .f32) (x2 : Vec Ideal S2048x2048 .bf16) : FVec Ideal S512x2048 .bf16 :=
  k0_pay2 (F := Ideal) x0 x1 x2

/-- The block's attention output times the last weights. -/
abbrev product (x0 : Vec Ideal S512x2048 .f32) (x1 : Vec Ideal S1x2048 .f32) (x2 : Vec Ideal S2048x2048 .bf16)
    (x3 x4 : Vec Ideal S1x256x2048 .bf16) (x5 : Vec Ideal S2048x2048 .bf16) : FVec Ideal S512x2048 .f32 :=
  k0_pay8 (F := Ideal) (queries x0 x1 x2) (k0_pay4 (F := Ideal) (k0_pay3 (F := Ideal) x0 x1 x2 x3) x4)
    (k0_pay5 (F := Ideal) (queries x0 x1 x2) x3 x4) (k0_pay6 (F := Ideal) (queries x0 x1 x2) x3)
    (k0_pay7 (F := Ideal) (queries x0 x1 x2) x3) x4 x3 x4 x5

/-- The block a point writes, as the body's arithmetic over the point's input blocks. -/
theorem out_eq (x0 : Vec Ideal S512x2048 .f32) (x1 : Vec Ideal S1x2048 .f32) (x2 : Vec Ideal S2048x2048 .bf16)
    (x3 x4 : Vec Ideal S1x256x2048 .bf16) (x5 : Vec Ideal S2048x2048 .bf16) (x6 : Vec Ideal S1x2048 .f32) :
    out0_7 (F := Ideal) x0 x1 x2 x3 x4 x5 x6
      = k0_pay1 (F := Ideal) x0 (product x0 x1 x2 x3 x4 x5) (k0_pay9 (F := Ideal) x6)
          (k0_pay10 (F := Ideal) (queries x0 x1 x2) (k0_pay4 (F := Ideal) (k0_pay3 (F := Ideal) x0 x1 x2 x3) x4)
            (k0_pay5 (F := Ideal) (queries x0 x1 x2) x3 x4) (k0_pay6 (F := Ideal) (queries x0 x1 x2) x3)
            (k0_pay7 (F := Ideal) (queries x0 x1 x2) x3) x4 x3 x4 x5) (Scalar.ofBits .f32 0x45000000#32) := by
  have e11 : k0_pay11 (F := Ideal) x0 x1 x2 x3 x4 x5 x6 = queries x0 x1 x2 := by
    unfold k0_pay11; frame_out
  have e12 : k0_pay12 (F := Ideal) x0 x1 x2 x3 x4 x5 x6 = k0_pay4 (F := Ideal) (k0_pay3 (F := Ideal) x0 x1 x2 x3) x4 := by
    unfold k0_pay12; frame_out
  have e13 : k0_pay13 (F := Ideal) x0 x1 x2 x3 x4 x5 x6 = k0_pay5 (F := Ideal) (queries x0 x1 x2) x3 x4 := by
    unfold k0_pay13; rw [e11]; frame_out
  have e14 : k0_pay14 (F := Ideal) x0 x1 x2 x3 x4 x5 x6 = k0_pay6 (F := Ideal) (queries x0 x1 x2) x3 := by
    unfold k0_pay14; rw [e11]; frame_out
  have e15 : k0_pay15 (F := Ideal) x0 x1 x2 x3 x4 x5 x6 = k0_pay7 (F := Ideal) (queries x0 x1 x2) x3 := by
    unfold k0_pay15; rw [e11]; frame_out
  frame_out
  rw [e11, e12, e13, e14, e15]

theorem product_at (x0 : Vec Ideal S512x2048 .f32) (x1 : Vec Ideal S1x2048 .f32) (x2 : Vec Ideal S2048x2048 .bf16)
    (x3 x4 : Vec Ideal S1x256x2048 .bf16) (x5 : Vec Ideal S2048x2048 .bf16) (r : Fin 512) (d : Fin 2048) :
    product x0 x1 x2 x3 x4 x5 (ix2 r d)
      = ∑ j : Fin 2048, readsAt (fun j => queries x0 x1 x2 (ix2 r j)) (fun n j => x3 (ix3 (0 : Fin 1) n j))
          (fun n j => x4 (ix3 (0 : Fin 1) n j)) j * x5 (ix2 j d) := by
  refine pay8_at _ _ _ _ _ _ _ _ r d (fun e => ?_) (fun e => pay5_at _ _ _ r e) fun n => ?_
  · rw [pay4_at]
    simp only [pay3_at]
    rfl
  · rw [pay7_at]
    simp only [pay6_at]
    rfl

/-- Entry `(r, d)` of the block a point writes. -/
theorem out_at (x0 : Vec Ideal S512x2048 .f32) (x1 : Vec Ideal S1x2048 .f32) (x2 : Vec Ideal S2048x2048 .bf16)
    (x3 x4 : Vec Ideal S1x256x2048 .bf16) (x5 : Vec Ideal S2048x2048 .bf16) (x6 : Vec Ideal S1x2048 .f32) (r : Fin 512) (d : Fin 2048) :
    out0_7 (F := Ideal) x0 x1 x2 x3 x4 x5 x6 (ix2 r d)
      = x0 (ix2 r d) + rmsAt (fun d => ∑ j : Fin 2048,
          readsAt (fun j => ∑ k : Fin 2048, rmsAt (fun k => x0 (ix2 r k)) (x1 (ix2 (0 : Fin 1) k)) k * x2 (ix2 k j))
            (fun n j => x3 (ix3 (0 : Fin 1) n j)) (fun n j => x4 (ix3 (0 : Fin 1) n j)) j * x5 (ix2 j d))
          (x6 (ix2 (0 : Fin 1) d)) d := by
  rw [out_eq, pay1_at _ _ _ _ r d (pay10_at _ _ _ _ _ _ _ _ _ r)]
  simp only [product_at, queries, pay2_at]

theorem idx : ∀ t : Fin cfg0.N, win0_0.index t = ![t.val, 0] ∧ win0_1.index t = ![0, 0] ∧ win0_2.index t = ![0, 0]
    ∧ win0_3.index t = ![t.val / 16, 0, 0] ∧ win0_4.index t = ![t.val / 16, 0, 1] ∧ win0_5.index t = ![0, 0]
    ∧ win0_6.index t = ![0, 0] ∧ win0_7.index t = ![t.val, 0] :=
  (by decide +kernel : ∀ t : Fin grid0.N, _)

variable (m : (ℓ : Loc nD τ sig) → Buf (Elt Ideal) ℓ)

/-- The row of the arrays that row `r` of the blocks at point `t` is. -/
def row (t : Fin cfg0.N) (r : Fin 512) : Fin 16384 :=
  ⟨t.val * 512 + r.val, by have h := lt_of_lt_of_eq t.isLt (show cfg0.N = 32 from N_0); omega⟩

/-- The sequence that the rows of point `t` belong to. -/
def seq (t : Fin cfg0.N) : Fin 2 :=
  ⟨t.val / 16, by have h := lt_of_lt_of_eq t.isLt (show cfg0.N = 32 from N_0); omega⟩

theorem seq_eq (t : Fin cfg0.N) (r : Fin 512) (h : (row t r).val / 8192 < 2) : (⟨(row t r).val / 8192, h⟩ : Fin 2) = seq t :=
  Fin.ext (by show (t.val * 512 + r.val) / 8192 = t.val / 16; omega)

theorem blk0 (c : Dev nD) (t : Fin cfg0.N) (r : Fin 512) (d : Fin 2048) :
    iblk m c 0 t (ix2 r d) = m ((c : Thread nD τ).loc main_arg0) (ix2 (row t r) d) := by
  unfold row
  blk_ext [iblk, V, idx t]

theorem blk1 (c : Dev nD) (t : Fin cfg0.N) (d : Fin 2048) :
    iblk m c 1 t (ix2 (0 : Fin 1) d) = m ((c : Thread nD τ).loc main_arg1) (ix1 d) := by
  blk_point [iblk, V, idx t]

theorem blk2 (c : Dev nD) (t : Fin cfg0.N) (k e : Fin 2048) :
    iblk m c 2 t (ix2 k e) = m ((c : Thread nD τ).loc main_arg2) (ix2 k e) := by
  blk_point [iblk, V, idx t]

theorem blk3 (c : Dev nD) (t : Fin cfg0.N) (n : Fin 256) (d : Fin 2048) :
    iblk m c 3 t (ix3 (0 : Fin 1) n d) = m ((c : Thread nD τ).loc main_arg3) (ix3 (seq t) n (⟨d.val, by omega⟩ : Fin 4096)) := by
  unfold seq
  blk_ext [iblk, V, idx t]

theorem blk4 (c : Dev nD) (t : Fin cfg0.N) (n : Fin 256) (d : Fin 2048) :
    iblk m c 4 t (ix3 (0 : Fin 1) n d) = m ((c : Thread nD τ).loc main_arg3) (ix3 (seq t) n (⟨2048 + d.val, by omega⟩ : Fin 4096)) := by
  unfold seq
  blk_ext [iblk, V, idx t]

theorem blk5 (c : Dev nD) (t : Fin cfg0.N) (k e : Fin 2048) :
    iblk m c 5 t (ix2 k e) = m ((c : Thread nD τ).loc main_arg4) (ix2 k e) := by
  blk_point [iblk, V, idx t]

theorem blk6 (c : Dev nD) (t : Fin cfg0.N) (d : Fin 2048) :
    iblk m c 6 t (ix2 (0 : Fin 1) d) = m ((c : Thread nD τ).loc main_arg5) (ix1 d) := by
  blk_point [iblk, V, idx t]

/-- What a point leaves in the output's buffer. -/
theorem point (c : Dev nD) (t : Fin cfg0.N) (r : Fin 512) (d : Fin 2048) :
    out0_7 (F := Ideal) (iblk m c 0 t) (iblk m c 1 t) (iblk m c 2 t) (iblk m c 3 t) (iblk m c 4 t) (iblk m c 5 t) (iblk m c 6 t) (ix2 r d)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (row t r) d := by
  rw [out_at]
  simp only [blk0, blk1, blk2, blk3, blk4, blk5, blk6]
  unfold result attended
  simp only [seq_eq]
  rfl

/-- The result array after the run. -/
theorem final (c : Dev nD) : (dats m 0 c).arrAt 7 (cfgs 0).N
    = ofEntries (φ := .f32) (result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))) := by
  refine (dats m 0 c).arrAt_eq_of_covers 7 _ (by decide +kernel) fun t hf y => ?_
  blk_simp
  rw [after0_7]
  obtain ⟨-, -, -, -, -, -, -, e7⟩ := idx t
  have e0 : row t (y 0) = (win0_7.blk t).view.emb y 0 := Fin.ext (by
    show t.val * 512 + (y 0).val = win0_7.index t (0 : Fin 2) * 512 + 1 * (y 0).val
    rw [e7]; simp)
  have e1 : (y 1 : Fin 2048) = (win0_7.blk t).view.emb y 1 := Fin.ext (by
    show (y 1).val = win0_7.index t (1 : Fin 2) * 2048 + 1 * (y 1).val
    rw [e7]; simp)
  refine (congrArg (out0_7 (F := Ideal) _ _ _ _ _ _ _) (eq_ix2 (n0 := 512) (n1 := 2048) y)).trans ((point m c t (y 0) (y 1)).trans ?_)
  exact congrArg₂ (result _ _ _ _ _ _) e0 e1

end Cert.Kernel5Ideal.Xa

end
-- ==== Proof.KvMath.lean ====
module

public import proofs.«01_k».proof.Proof.Gen.Reference6Ideal.Run
public import proofs.«01_k».proof.Proof.Xa

@[expose] public section

set_option maxRecDepth 16384

noncomputable section

namespace Cert.Proof.Kv

open Idealize.ShloMosaic Idealize.ShloMosaic.TcCoe Idealize.SL.Sem Cert.Proof

/-- The two memories' rows, one memory after the other. -/
def flat (x : FVec Ideal ⟨3, ![2, 256, 2048]⟩ .f32) : FVec Ideal ⟨2, ![512, 2048]⟩ .f32 :=
  ofEntries fun i k => x (ix3 (⟨i.val / 256, by omega⟩ : Fin 2) (⟨i.val % 256, by omega⟩ : Fin 256) k)

theorem flat_at (x : FVec Ideal ⟨3, ![2, 256, 2048]⟩ .f32) (i : Fin 512) (k : Fin 2048) :
    flat x (ix2 i k) = x (ix3 (⟨i.val / 256, by omega⟩ : Fin 2) (⟨i.val % 256, by omega⟩ : Fin 256) k) := rfl

open Cert.Reference6Ideal in
/-- The reference's run leaves this formula's entries in its result. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
        = ofEntries (φ := .bf16) (normedDot (flat (m ((c.tc : Thread nD τ).loc main_arg0))) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans (eq_ofEntries fun i j => ?_), (h c).2⟩)
    (Cert.Reference6Ideal.Value.run (F := Ideal) m ρ)
  pointwise [normedDot, normed, rmsAt, flat_at]

end Cert.Proof.Kv

end
-- ==== Proof.Kv.lean ====
/- What the call that projects the memories to keys and values computes. -/
module

public import proofs.«01_k».proof.Proof.Gen.Kernel6Ideal.Frame
public import proofs.«01_k».proof.Proof.KvMath

@[expose] public section

set_option maxRecDepth 16384

noncomputable section

namespace Cert.Kernel6Ideal.Kv

open Cert.Kernel6Ideal Cert.Kernel6Ideal.Gen Idealize.ShloMosaic Idealize.ShloMosaic.TcCoe Idealize.SL.Sem
open Idealize.ShloMosaic.Pipeline (Dat)
open Cert.Proof Cert.Proof.Kv

theorem pay1_at (x : Vec Ideal S512x2048 .f32) (g : Vec Ideal S1x2048 .f32) (r : Fin 512) (d : Fin 2048) :
    k0_pay1 (F := Ideal) x g (ix2 r d) = rmsAt (fun k => x (ix2 r k)) (g (ix2 (0 : Fin 1) d)) d := by
  pointwise [k0_pay1, rmsAt]

theorem pay2_at (u : Vec Ideal S512x2048 .bf16) (w : Vec Ideal S2048x512 .bf16) (r : Fin 512) (e : Fin 512) :
    k0_pay2 (F := Ideal) u w (ix2 r e) = ∑ k : Fin 2048, u (ix2 r k) * w (ix2 k e) := by
  pointwise [k0_pay2]

theorem idx : ∀ t : Fin cfg0.N, win0_0.index t = ![0, 0] ∧ win0_1.index t = ![0, 0] ∧ win0_2.index t = ![0, t.val]
    ∧ win0_3.index t = ![0, t.val] :=
  (by decide +kernel : ∀ t : Fin grid0.N, _)

variable (m : (ℓ : Loc nD τ sig) → Buf (Elt Ideal) ℓ)

theorem blk0 (c : Dev nD) (t : Fin cfg0.N) (r : Fin 512) (d : Fin 2048) :
    iblk m c 0 t (ix2 r d) = flat (m ((c : Thread nD τ).loc main_arg0)) (ix2 r d) := by
  rw [flat_at]
  blk_point [iblk, V, idx t]

theorem blk1 (c : Dev nD) (t : Fin cfg0.N) (d : Fin 2048) :
    iblk m c 1 t (ix2 (0 : Fin 1) d) = m ((c : Thread nD τ).loc main_arg1) (ix1 d) := by
  blk_point [iblk, V, idx t]

theorem blk2 (c : Dev nD) (t : Fin cfg0.N) (ht : t.val < 8) (k : Fin 2048) (e : Fin 512) :
    iblk m c 2 t (ix2 k e) = m ((c : Thread nD τ).loc main_arg2) (ix2 k (⟨t.val * 512 + e.val, by omega⟩ : Fin 4096)) := by
  blk_point [iblk, V, idx t]

/-- The normed rows. -/
abbrev rows (c : Dev nD) (r : Fin 512) (k : Fin 2048) : EReal :=
  normed (flat (m ((c : Thread nD τ).loc main_arg0))) (m ((c : Thread nD τ).loc main_arg1)) r k

theorem norm_block (c : Dev nD) (t : Fin cfg0.N) (r : Fin 512) (k : Fin 2048) :
    k0_pay1 (F := Ideal) (iblk m c 0 t) (iblk m c 1 t) (ix2 r k) = rows m c r k := by
  rw [pay1_at, blk1]
  simp only [blk0 m c t]
  rfl

/-- The first point of a row block: the scratch is the normed rows, the output's buffer their product with the weights. -/
theorem leaves_A (c : Dev nD) (t : Fin cfg0.N) (h0 : t.val % 8 = 0) :
    outsAt0 m c t.val t.isLt = (k0_pay2 (F := Ideal) (k0_pay1 (F := Ideal) (iblk m c 0 t) (iblk m c 1 t)) (iblk m c 2 t),
      k0_pay1 (F := Ideal) (iblk m c 0 t) (iblk m c 1 t)) := by
  rw [outsAt0_A m c t h0]
  refine Prod.ext ?_ ?_
  · frame_out
  · frame_out

/-- A later point: the scratch stays. -/
theorem leaves_B (c : Dev nD) (t : Fin cfg0.N) (h0 : ¬t.val % 8 = 0) (o : Vec Ideal S512x512 .bf16 × Vec Ideal S512x2048 .bf16)
    (ho : outsAt0 m c (t.val - 1) (Nat.lt_of_le_of_lt (Nat.sub_le _ _) t.isLt) = o) :
    outsAt0 m c t.val t.isLt = (k0_pay2 (F := Ideal) o.2 (iblk m c 2 t), o.2) := by
  rw [outsAt0_B m c t h0, ho]
  refine Prod.ext ?_ ?_
  · frame_out
    refine congrArg (fun u => k0_pay2 (F := Ideal) u (iblk m c 2 t)) ((Memref.isWhole_whole cc0_scratch0).read_unread (Val := Elt Ideal) o.2)
  · rfl

/-- Every point leaves the normed rows in the scratch and has multiplied them by its weights. -/
theorem carried (c : Dev nD) : ∀ (n : ℕ) (hn : n < cfg0.N),
    (∀ r k, (outsAt0 m c n hn).2 (ix2 r k) = rows m c r k) ∧
    (outsAt0 m c n hn).1 = k0_pay2 (F := Ideal) (outsAt0 m c n hn).2 (iblk m c 2 ⟨n, hn⟩) := by
  have first : ∀ (n : ℕ) (hn : n < cfg0.N), n % 8 = 0 →
      (∀ r k, (outsAt0 m c n hn).2 (ix2 r k) = rows m c r k) ∧
      (outsAt0 m c n hn).1 = k0_pay2 (F := Ideal) (outsAt0 m c n hn).2 (iblk m c 2 ⟨n, hn⟩) := by
    intro n hn h0
    rw [leaves_A m c ⟨n, hn⟩ h0]
    exact ⟨norm_block m c ⟨n, hn⟩, rfl⟩
  intro n
  induction n with
  | zero => exact fun hn => first 0 hn rfl
  | succ n ih =>
    intro hn
    by_cases h0 : (n + 1) % 8 = 0
    · exact first _ hn h0
    · have ih1 := (ih (Nat.lt_of_succ_lt hn)).1
      have keep : ∀ r k, (outsAt0 m c n (Nat.lt_of_succ_lt hn)).2 (ix2 r k) = rows m c r k := ih1
      rw [leaves_B m c ⟨n + 1, hn⟩ h0 _ rfl]
      exact ⟨keep, rfl⟩

/-- What a point leaves in the output's buffer. -/
theorem point (c : Dev nD) (t : Fin cfg0.N) (r : Fin 512) (e : Fin 512) (ht : t.val < 8) :
    (outsAt0 m c t.val t.isLt).1 (ix2 r e) = normedDot (flat (m ((c : Thread nD τ).loc main_arg0)))
      (m ((c : Thread nD τ).loc main_arg1)) (m ((c : Thread nD τ).loc main_arg2)) r ⟨t.val * 512 + e.val, by omega⟩ := by
  obtain ⟨k1, k2⟩ := carried m c t.val t.isLt
  rw [k2, pay2_at]
  unfold normedDot
  refine Finset.sum_congr rfl fun k _ => ?_
  rw [k1 r k, blk2 m c t ht]

/-- The result array after the run. -/
theorem final (c : Dev nD) : (dats m 0 c).arrAt 3 (cfgs 0).N
    = ofEntries (φ := .bf16) (normedDot (flat (m ((c : Thread nD τ).loc main_arg0)))
      (m ((c : Thread nD τ).loc main_arg1)) (m ((c : Thread nD τ).loc main_arg2))) := by
  refine (dats m 0 c).arrAt_eq_of_covers 3 _ (by decide +kernel) fun t hf y => ?_
  blk_simp
  rw [after0_3]
  obtain ⟨-, -, -, e3⟩ := idx t
  have ht : t.val < 8 := lt_of_lt_of_eq t.isLt (show cfg0.N = 8 from N_0)
  have e0 : (y 0 : Fin 512) = (win0_3.blk t).view.emb y 0 := Fin.ext (by
    show (y 0).val = win0_3.index t (0 : Fin 2) * 512 + 1 * (y 0).val
    rw [e3]; simp)
  have hy : t.val * 512 + (y 1).val < 4096 := by have h : (y 1).val < 512 := (y 1).isLt; omega
  have e1 : (⟨t.val * 512 + (y 1).val, hy⟩ : Fin 4096) = (win0_3.blk t).view.emb y 1 := Fin.ext (by
    show t.val * 512 + (y 1).val = win0_3.index t (1 : Fin 2) * 512 + 1 * (y 1).val
    rw [e3]; simp)
  refine (congrArg (outsAt0 m c t.val t.isLt).1 (eq_ix2 (n0 := 512) (n1 := 512) y)).trans ((point m c t (y 0) (y 1) ht).trans ?_)
  exact congrArg₂ (normedDot _ _ _) e0 e1

end Cert.Kernel6Ideal.Kv

end
-- ==== Proof.SmallMath.lean ====
module

public import proofs.«01_k».proof.Proof.Gen.Reference7Ideal.Run
public import proofs.«01_k».proof.Proof.Kv

@[expose] public section

set_option maxRecDepth 16384

noncomputable section

namespace Cert.Proof.Small

open Idealize.ShloMosaic Idealize.ShloMosaic.TcCoe Idealize.SL.Sem Cert.Proof

/-- Entry `d` of a latent row `x`, divided by the root of the mean of the row's squares plus epsilon, times the gain `g`. -/
def latAt (x : Fin 256 → EReal) (g : EReal) (d : Fin 256) : EReal :=
  x d * Ideal.rsqrt (Ideal.div (∑ k : Fin 256, x k * x k) (Ideal.ofBits .f32 0x43800000#32)
    + Ideal.ofBits .f32 0x358637BD#32) * g

/-- Entry `d` of an indexer key `x` less the key's mean. -/
def centre (x : Fin 128 → EReal) (d : Fin 128) : EReal :=
  x d - Ideal.div (∑ k : Fin 128, x k) (Ideal.ofBits .f32 0x43000000#32)

/-- Entry `d` of the centred key `x`, divided by the root of its variance plus epsilon, times the gain `w`, plus the bias `b`. -/
def scaleAt (x : Fin 128 → EReal) (w b : EReal) (d : Fin 128) : EReal :=
  x d * Ideal.rsqrt (Ideal.div (∑ k : Fin 128, x k * x k) (Ideal.ofBits .f32 0x43000000#32)
    + Ideal.ofBits .f32 0x358637BD#32) * w + b

/-- The row of the layer's input that row `s` of sequence `b` is, behind the 512 rows of zeros. -/
def token (b : Fin 2) (s : Fin 8704) : Fin 16384 := ⟨b.val * 8192 + (s.val - 512), by omega⟩

/-- A rank-three array with entry `f b s d` at `(b, s, d)`. -/
def ofEntries3 {n p q : ℕ} {φ : FTy} (f : Fin n → Fin p → Fin q → EReal) : FVec Ideal ⟨3, ![n, p, q]⟩ φ :=
  fun i => f (i 0) (i 1) (i 2)

theorem eq_ofEntries3 {n p q : ℕ} {φ : FTy} {f : Fin n → Fin p → Fin q → EReal} {x : FVec Ideal ⟨3, ![n, p, q]⟩ φ}
    (h : ∀ b s d, x (ix3 b s d) = f b s d) : x = ofEntries3 f := by
  funext i
  exact (congrArg x (eq_ix3 (n0 := n) (n1 := p) (n2 := q) i)).trans (h (i 0) (i 1) (i 2))

section
variable (h : FVec Ideal ⟨2, ![16384, 2048]⟩ .f32) (g : FVec Ideal ⟨1, ![2048]⟩ .f32) (w : FVec Ideal ⟨2, ![2048, 14752]⟩ .f32)

/-- Entry `(b, s, d)` of the normed latents: zero in the first 512 rows of a sequence. -/
def latents (lg : FVec Ideal ⟨1, ![256]⟩ .f32) (b : Fin 2) (s : Fin 8704) (d : Fin 256) : EReal :=
  if s.val < 512 then 0
  else latAt (fun k => normedDot h g w (token b s) (⟨8208 + k.val, by omega⟩ : Fin 14752)) (lg (ix1 d)) d

/-- Entry `(b, s, d)` of the indexer's keys: zero in the first 512 rows of a sequence. -/
def keys (kw kb : FVec Ideal ⟨1, ![128]⟩ .f32) (b : Fin 2) (s : Fin 8704) (d : Fin 128) : EReal :=
  if s.val < 512 then 0
  else scaleAt (centre fun k => normedDot h g w (token b s) (⟨10512 + k.val, by omega⟩ : Fin 14752)) (kw (ix1 d)) (kb (ix1 d)) d

/-- Entry `(b, s, j)` of the array with the decay's columns, then the indexer's weights, then zeros. -/
def narrow (b : Fin 2) (s : Fin 8704) (j : Fin 128) : EReal :=
  if s.val < 512 then 0
  else if j.val < 16 then normedDot h g w (token b s) (⟨6144 + j.val, by omega⟩ : Fin 14752)
  else if j.val < 32 then normedDot h g w (token b s) (⟨10640 + (j.val - 16), by omega⟩ : Fin 14752)
  else 0

end

section
open Cert.Reference7Ideal Cert.Reference7Ideal.Gen

/-- The rows of `h` normed, as the reference writes it. -/
def unit (h : FVec Ideal S16384x2048 .f32) (g : FVec Ideal S2048 .f32) : FVec Ideal S2x8192x2048 .f32 :=
  mulf (mulf (shapeCast _ h shapeCasts_S16384x2048_S2x8192x2048)
    (broadcastInDim S2x8192x2048 ![0, 1, 2] bcast_S2x8192x1_S2x8192x2048_0_1_2
      (Host.rsqrt (addf (Host.divf (broadcastInDim S2x8192x1 ![0, 1] bcast_S2x8192_S2x8192x1_0_1
          (Host.reduceAdd (mulf (shapeCast _ h shapeCasts_S16384x2048_S2x8192x2048) (shapeCast _ h shapeCasts_S16384x2048_S2x8192x2048))
            (constant S_ .f32 0x00000000#32) reducesTo_S2x8192x2048_S2x8192_d2 h_S_))
        (broadcastInDim S2x8192x1 ![] bcast_S_S2x8192x1 (constant S_ .f32 0x45000000#32)))
      (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))

/-- The projections, as the reference writes them. -/
def times (u : FVec Ideal S2x8192x2048 .f32) (w : FVec Ideal S2048x14752 .f32) : FVec Ideal S2x8192x14752 .f32 :=
  Host.dotGeneral dot_S2x8192x2048_S2048x14752_S2x8192x14752_2_0_01_1_n_n none u w

/-- The latents' columns of the projections, as the reference takes them. -/
def cutC (p : FVec Ideal S2x8192x14752 .f32) : FVec Ideal S2x8192x256 .f32 :=
  extractStridedSlice S2x8192x256 ![0, 0, 8208] p slices_S2x8192x14752_S2x8192x256_0_0_8208

/-- The keys' columns of the projections, as the reference takes them. -/
def cutK (p : FVec Ideal S2x8192x14752 .f32) : FVec Ideal S2x8192x128 .f32 :=
  extractStridedSlice S2x8192x128 ![0, 0, 10512] p slices_S2x8192x14752_S2x8192x128_0_0_10512

/-- The latents normed, as the reference writes it. -/
def normC (x : FVec Ideal S2x8192x256 .f32) (g : FVec Ideal S256 .f32) : FVec Ideal S2x8192x256 .f32 :=
  mulf (mulf x (broadcastInDim S2x8192x256 ![0, 1, 2] bcast_S2x8192x1_S2x8192x256_0_1_2
      (Host.rsqrt (addf (Host.divf (broadcastInDim S2x8192x1 ![0, 1] bcast_S2x8192_S2x8192x1_0_1
          (Host.reduceAdd (mulf x x) (constant S_ .f32 0x00000000#32) reducesTo_S2x8192x256_S2x8192_d2 h_S_))
        (broadcastInDim S2x8192x1 ![] bcast_S_S2x8192x1 (constant S_ .f32 0x43800000#32)))
      (broadcastInDim S2x8192x1 ![] bcast_S_S2x8192x1 (constant S_ .f32 0x358637BD#32))))))
    (broadcastInDim S2x8192x256 ![0, 1, 2] bcast_S1x1x256_S2x8192x256_0_1_2 (broadcastInDim S1x1x256 ![2] bcast_S256_S1x1x256_2 g))

/-- The keys less their means, as the reference writes it. -/
def centreK (x : FVec Ideal S2x8192x128 .f32) : FVec Ideal S2x8192x128 .f32 :=
  subf x (broadcastInDim S2x8192x128 ![0, 1, 2] bcast_S2x8192x1_S2x8192x128_0_1_2
    (Host.divf (broadcastInDim S2x8192x1 ![0, 1] bcast_S2x8192_S2x8192x1_0_1
        (Host.reduceAdd x (constant S_ .f32 0x00000000#32) reducesTo_S2x8192x128_S2x8192_d2 h_S_))
      (broadcastInDim S2x8192x1 ![] bcast_S_S2x8192x1 (constant S_ .f32 0x43000000#32))))

/-- The centred keys scaled, as the reference writes it. -/
def scaleK (x : FVec Ideal S2x8192x128 .f32) (w b : FVec Ideal S128 .f32) : FVec Ideal S2x8192x128 .f32 :=
  addf (mulf (mulf x (broadcastInDim S2x8192x128 ![0, 1, 2] bcast_S2x8192x1_S2x8192x128_0_1_2
      (Host.rsqrt (addf (Host.divf (broadcastInDim S2x8192x1 ![0, 1] bcast_S2x8192_S2x8192x1_0_1
          (Host.reduceAdd (mulf x x) (constant S_ .f32 0x00000000#32) reducesTo_S2x8192x128_S2x8192_d2 h_S_))
        (broadcastInDim S2x8192x1 ![] bcast_S_S2x8192x1 (constant S_ .f32 0x43000000#32)))
      (broadcastInDim S2x8192x1 ![] bcast_S_S2x8192x1 (constant S_ .f32 0x358637BD#32))))))
    (broadcastInDim S2x8192x128 ![0, 1, 2] bcast_S1x1x128_S2x8192x128_0_1_2 (broadcastInDim S1x1x128 ![2] bcast_S128_S1x1x128_2 w)))
    (broadcastInDim S2x8192x128 ![0, 1, 2] bcast_S1x1x128_S2x8192x128_0_1_2 (broadcastInDim S1x1x128 ![2] bcast_S128_S1x1x128_2 b))

/-- The decay's columns, the indexer's weights and zeros side by side, as the reference writes it. -/
def sides (p : FVec Ideal S2x8192x14752 .f32) : FVec Ideal S2x8192x128 .f32 :=
  concatenate S2x8192x128 2
    [⟨S2x8192x16, extractStridedSlice S2x8192x16 ![0, 0, 6144] p slices_S2x8192x14752_S2x8192x16_0_0_6144⟩,
     ⟨S2x8192x16, extractStridedSlice S2x8192x16 ![0, 0, 10640] p slices_S2x8192x14752_S2x8192x16_0_0_10640⟩,
     ⟨S2x8192x96, broadcastInDim S2x8192x96 ![] bcast_S_S2x8192x96 (constant S_ .f32 0x00000000#32)⟩]
    concatenates_S2x8192x16_S2x8192x16_S2x8192x96_S2x8192x128_d2

/-- Rows of zeros in front of the latents, as the reference writes it. -/
def frontC (x : FVec Ideal S2x8192x256 .f32) : FVec Ideal S2x8704x256 .f32 :=
  concatenate S2x8704x256 1
    [⟨S2x512x256, broadcastInDim S2x512x256 ![] bcast_S_S2x512x256 (constant S_ .f32 0x00000000#32)⟩, ⟨S2x8192x256, x⟩]
    concatenates_S2x512x256_S2x8192x256_S2x8704x256_d1

/-- Rows of zeros in front of an array of 128 columns, as the reference writes it. -/
def frontK (x : FVec Ideal S2x8192x128 .f32) : FVec Ideal S2x8704x128 .f32 :=
  concatenate S2x8704x128 1
    [⟨S2x512x128, broadcastInDim S2x512x128 ![] bcast_S_S2x512x128 (constant S_ .f32 0x00000000#32)⟩, ⟨S2x8192x128, x⟩]
    concatenates_S2x512x128_S2x8192x128_S2x8704x128_d1

theorem unit_at (h : FVec Ideal S16384x2048 .f32) (g : FVec Ideal S2048 .f32) (b : Fin 2) (s : Fin 8192) (d : Fin 2048) :
    unit h g (ix3 b s d) = normed h g (⟨b.val * 8192 + s.val, by omega⟩ : Fin 16384) d := by
  pointwise [unit, normed, rmsAt]

theorem times_at (u : FVec Ideal S2x8192x2048 .f32) (w : FVec Ideal S2048x14752 .f32) (b : Fin 2) (s : Fin 8192) (e : Fin 14752) :
    times u w (ix3 b s e) = ∑ k : Fin 2048, u (ix3 b s k) * w (ix2 k e) := by
  pointwise [times]

/-- The projections, entry by entry. -/
theorem proj_at (h : FVec Ideal S16384x2048 .f32) (g : FVec Ideal S2048 .f32) (w : FVec Ideal S2048x14752 .f32)
    (b : Fin 2) (s : Fin 8192) (e : Fin 14752) :
    times (unit h g) w (ix3 b s e) = normedDot h g w (⟨b.val * 8192 + s.val, by omega⟩ : Fin 16384) e := by
  rw [times_at]
  simp only [unit_at]
  rfl

theorem cutC_at (p : FVec Ideal S2x8192x14752 .f32) (b : Fin 2) (s : Fin 8192) (d : Fin 256) :
    cutC p (ix3 b s d) = p (ix3 b s (⟨8208 + d.val, by omega⟩ : Fin 14752)) := by
  pointwise [cutC]

theorem cutK_at (p : FVec Ideal S2x8192x14752 .f32) (b : Fin 2) (s : Fin 8192) (d : Fin 128) :
    cutK p (ix3 b s d) = p (ix3 b s (⟨10512 + d.val, by omega⟩ : Fin 14752)) := by
  pointwise [cutK]

theorem normC_at (x : FVec Ideal S2x8192x256 .f32) (g : FVec Ideal S256 .f32) (b : Fin 2) (s : Fin 8192) (d : Fin 256) :
    normC x g (ix3 b s d) = latAt (fun k => x (ix3 b s k)) (g (ix1 d)) d := by
  pointwise [normC, latAt]

theorem centreK_at (x : FVec Ideal S2x8192x128 .f32) (b : Fin 2) (s : Fin 8192) (d : Fin 128) :
    centreK x (ix3 b s d) = centre (fun k => x (ix3 b s k)) d := by
  pointwise [centreK, centre]

theorem scaleK_at (x : FVec Ideal S2x8192x128 .f32) (w bi : FVec Ideal S128 .f32) (b : Fin 2) (s : Fin 8192) (d : Fin 128) :
    scaleK x w bi (ix3 b s d) = scaleAt (fun k => x (ix3 b s k)) (w (ix1 d)) (bi (ix1 d)) d := by
  pointwise [scaleK, scaleAt]

theorem sides_at (p : FVec Ideal S2x8192x14752 .f32) (b : Fin 2) (s : Fin 8192) (j : Fin 128) :
    sides p (ix3 b s j) = if j.val < 16 then p (ix3 b s (⟨6144 + j.val, by omega⟩ : Fin 14752))
      else if j.val < 32 then p (ix3 b s (⟨10640 + (j.val - 16), by omega⟩ : Fin 14752)) else 0 := by
  have hj := j.isLt
  pointwise [sides]
  by_cases h1 : j.val < 16
  · rw [dif_pos h1, if_pos h1]
  · rw [dif_neg h1, if_neg h1]
    by_cases h2 : j.val < 32
    · rw [dif_pos (by omega), if_pos h2]
    · rw [dif_neg (by omega), if_neg h2]

theorem frontC_at (x : FVec Ideal S2x8192x256 .f32) (b : Fin 2) (s : Fin 8704) (d : Fin 256) :
    frontC x (ix3 b s d) = if s.val < 512 then 0 else x (ix3 b (⟨s.val - 512, by omega⟩ : Fin 8192) d) := by
  pointwise [frontC]
  by_cases h1 : s.val < 512
  · rw [dif_pos h1, if_pos h1]
  · rw [dif_neg h1, if_neg h1]

theorem frontK_at (x : FVec Ideal S2x8192x128 .f32) (b : Fin 2) (s : Fin 8704) (d : Fin 128) :
    frontK x (ix3 b s d) = if s.val < 512 then 0 else x (ix3 b (⟨s.val - 512, by omega⟩ : Fin 8192) d) := by
  pointwise [frontK]
  by_cases h1 : s.val < 512
  · rw [dif_pos h1, if_pos h1]
  · rw [dif_neg h1, if_neg h1]

/-- The reference's latents are the formula's. -/
theorem latents_eq (h : FVec Ideal S16384x2048 .f32) (g : FVec Ideal S2048 .f32) (w : FVec Ideal S2048x14752 .f32)
    (lg : FVec Ideal S256 .f32) :
    frontC (normC (cutC (times (unit h g) w)) lg) = ofEntries3 (latents h g w lg) := by
  refine eq_ofEntries3 fun b s d => ?_
  rw [frontC_at]
  unfold latents
  by_cases h1 : s.val < 512
  · rw [if_pos h1, if_pos h1]
  · rw [if_neg h1, if_neg h1, normC_at]
    simp only [cutC_at, proj_at]
    rfl

/-- The reference's keys are the formula's. -/
theorem keys_eq (h : FVec Ideal S16384x2048 .f32) (g : FVec Ideal S2048 .f32) (w : FVec Ideal S2048x14752 .f32)
    (kw kb : FVec Ideal S128 .f32) :
    frontK (scaleK (centreK (cutK (times (unit h g) w))) kw kb) = ofEntries3 (keys h g w kw kb) := by
  refine eq_ofEntries3 fun b s d => ?_
  rw [frontK_at]
  unfold keys
  by_cases h1 : s.val < 512
  · rw [if_pos h1, if_pos h1]
  · rw [if_neg h1, if_neg h1, scaleK_at]
    simp only [centreK_at, cutK_at, proj_at]
    rfl

/-- The reference's array of narrow columns is the formula's. -/
theorem narrow_eq (h : FVec Ideal S16384x2048 .f32) (g : FVec Ideal S2048 .f32) (w : FVec Ideal S2048x14752 .f32) :
    frontK (sides (times (unit h g) w)) = ofEntries3 (narrow h g w) := by
  refine eq_ofEntries3 fun b s d => ?_
  rw [frontK_at]
  unfold narrow
  by_cases h1 : s.val < 512
  · rw [if_pos h1, if_pos h1]
  · rw [if_neg h1, if_neg h1, sides_at]
    simp only [proj_at]
    rfl

/-- The reference's run leaves these formulas' entries in its results. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v66)
        = ofEntries3 (φ := .bf16) (latents (m ((c.tc : Thread nD τ).loc main_arg0)) (m ((c.tc : Thread nD τ).loc main_arg1))
            (m ((c.tc : Thread nD τ).loc main_arg2)) (m ((c.tc : Thread nD τ).loc main_arg3)))
      ∧ r.2.mem ((c.tc : Thread nD τ).loc main_v69)
        = ofEntries3 (φ := .bf16) (keys (m ((c.tc : Thread nD τ).loc main_arg0)) (m ((c.tc : Thread nD τ).loc main_arg1))
            (m ((c.tc : Thread nD τ).loc main_arg2)) (m ((c.tc : Thread nD τ).loc main_arg4)) (m ((c.tc : Thread nD τ).loc main_arg5)))
      ∧ r.2.mem ((c.tc : Thread nD τ).loc main_v71)
        = ofEntries3 (φ := .f32) (narrow (m ((c.tc : Thread nD τ).loc main_arg0)) (m ((c.tc : Thread nD τ).loc main_arg1))
            (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2.1.trans ?_, (h c).2.2.2⟩)
    (Cert.Reference7Ideal.Value.run (F := Ideal) m ρ)
  · exact latents_eq _ _ _ _
  · exact keys_eq _ _ _ _ _
  · exact narrow_eq _ _ _

end

end Cert.Proof.Small

end
-- ==== Proof.Small.lean ====
/- What the call of the narrow projections computes. -/
module

public import proofs.«01_k».proof.Proof.Gen.Kernel7Ideal.Frame
public import proofs.«01_k».proof.Proof.SmallMath

@[expose] public section

set_option maxRecDepth 16384

noncomputable section

namespace Cert.Kernel7Ideal.Small

open Cert.Kernel7Ideal Cert.Kernel7Ideal.Gen Idealize.ShloMosaic Idealize.ShloMosaic.TcCoe Idealize.SL.Sem
open Idealize.ShloMosaic.Pipeline (Dat)
open Cert.Proof Cert.Proof.Small

theorem pay1_at (r : Fin 512) (d : Fin 256) : k0_pay1 (F := Ideal) (ix3 (0 : Fin 1) r d) = 0 := by
  pointwise [k0_pay1]

theorem pay2_at (r : Fin 512) (d : Fin 128) : k0_pay2 (F := Ideal) (ix3 (0 : Fin 1) r d) = 0 := by
  pointwise [k0_pay2]

theorem pay3_at (r : Fin 512) (d : Fin 128) : k0_pay3 (F := Ideal) (ix3 (0 : Fin 1) r d) = 0 := by
  pointwise [k0_pay3]

theorem pay4_at (x : FVec Ideal S512x128 .f32) (y : FVec Ideal S512 .f32) (w b : Vec Ideal S1x128 .f32) (r : Fin 512) (d : Fin 128)
    (hy : y (ix1 r) = ∑ k : Fin 128, x (ix2 r k)) :
    k0_pay4 (F := Ideal) x y w b (ix3 (0 : Fin 1) r d)
      = scaleAt (centre fun k => x (ix2 r k)) (w (ix2 (0 : Fin 1) d)) (b (ix2 (0 : Fin 1) d)) d := by
  unfold scaleAt centre
  rw [← hy]
  pointwise [k0_pay4]

theorem pay5_at (p : FVec Ideal S512x512 .f32) (r : Fin 512) (j : Fin 128) :
    k0_pay5 (F := Ideal) p (ix3 (0 : Fin 1) r j) = p (ix2 r (⟨384 + j.val, by omega⟩ : Fin 512)) := by
  pointwise [k0_pay5]

theorem pay6_at (x : Vec Ideal S512x2048 .f32) (g : Vec Ideal S1x2048 .f32) (w : Vec Ideal S2048x512 .bf16) (r : Fin 512) (e : Fin 512) :
    k0_pay6 (F := Ideal) x g w (ix2 r e)
      = ∑ k : Fin 2048, rmsAt (fun k => x (ix2 r k)) (g (ix2 (0 : Fin 1) k)) k * w (ix2 k e) := by
  pointwise [k0_pay6, rmsAt]

theorem pay7_at (x : Vec Ideal S512x2048 .f32) (g : Vec Ideal S1x2048 .f32) (w : Vec Ideal S2048x512 .bf16) (lg : Vec Ideal S1x256 .f32)
    (r : Fin 512) (d : Fin 256) :
    k0_pay7 (F := Ideal) x g w lg (ix3 (0 : Fin 1) r d)
      = latAt (fun k => k0_pay6 (F := Ideal) x g w (ix2 r (⟨k.val, by omega⟩ : Fin 512))) (lg (ix2 (0 : Fin 1) d)) d := by
  pointwise [k0_pay7, latAt]

theorem pay8_at (x : Vec Ideal S512x2048 .f32) (g : Vec Ideal S1x2048 .f32) (w : Vec Ideal S2048x512 .bf16) (r : Fin 512) (d : Fin 128) :
    k0_pay8 (F := Ideal) x g w (ix2 r d) = k0_pay6 (F := Ideal) x g w (ix2 r (⟨256 + d.val, by omega⟩ : Fin 512)) := by
  pointwise [k0_pay8]

theorem pay9_at (x : Vec Ideal S512x2048 .f32) (g : Vec Ideal S1x2048 .f32) (w : Vec Ideal S2048x512 .bf16) (r : Fin 512) :
    k0_pay9 (F := Ideal) x g w (ix1 r) = ∑ k : Fin 128, k0_pay8 (F := Ideal) x g w (ix2 r k) := by
  pointwise [k0_pay9]

theorem idx : ∀ t : Fin cfg0.N, win0_0.index t = ![t.val / 17 * 16 + (t.val % 17 - 1), 0] ∧ win0_1.index t = ![0, 0]
    ∧ win0_2.index t = ![0, 0] ∧ win0_3.index t = ![0, 0] ∧ win0_4.index t = ![0, 0] ∧ win0_5.index t = ![0, 0]
    ∧ win0_6.index t = ![t.val / 17, t.val % 17, 0] ∧ win0_7.index t = ![t.val / 17, t.val % 17, 0]
    ∧ win0_8.index t = ![t.val / 17, t.val % 17, 0] :=
  (by decide +kernel : ∀ t : Fin grid0.N, _)

variable (m : (ℓ : Loc nD τ sig) → Buf (Elt Ideal) ℓ)

/-- The layer's input. -/
abbrev inp (c : Dev nD) : FVec Ideal S16384x2048 .f32 := m ((c : Thread nD τ).loc main_arg0)

/-- The gain of the norm before the projections. -/
abbrev gain (c : Dev nD) : FVec Ideal S2048 .f32 := m ((c : Thread nD τ).loc main_arg1)

/-- The projections' weights. -/
abbrev wts (c : Dev nD) : FVec Ideal S2048x14752 .f32 := m ((c : Thread nD τ).loc main_arg2)

theorem blk0 (c : Dev nD) (t : Fin cfg0.N) (ht : t.val / 17 < 2) (h1 : 1 ≤ t.val % 17) (r : Fin 512) (d : Fin 2048) :
    iblk m c 0 t (ix2 r d) = inp m c (ix2 (token ⟨t.val / 17, ht⟩ ⟨t.val % 17 * 512 + r.val, by omega⟩) d) := by
  have e : token ⟨t.val / 17, ht⟩ ⟨t.val % 17 * 512 + r.val, by omega⟩
      = (⟨(t.val / 17 * 16 + (t.val % 17 - 1)) * 512 + r.val, by omega⟩ : Fin 16384) := Fin.ext (by
    show t.val / 17 * 8192 + (t.val % 17 * 512 + r.val - 512) = _
    dsimp only
    omega)
  rw [e]
  blk_ext [iblk, V, idx t]

theorem blk1 (c : Dev nD) (t : Fin cfg0.N) (d : Fin 2048) : iblk m c 1 t (ix2 (0 : Fin 1) d) = gain m c (ix1 d) := by
  blk_point [iblk, V, idx t]

/-- The columns of `w_in` that the call is given, as the host lays them side by side. -/
def gathered (w : FVec Ideal S2048x14752 .f32) : FVec Ideal S2048x512 .bf16 :=
  truncf .bf16 (concatenate S2048x512 1
    [⟨S2048x256, extractStridedSlice S2048x256 ![0, 8208] w slices_S2048x14752_S2048x256_0_8208⟩,
     ⟨S2048x128, extractStridedSlice S2048x128 ![0, 10512] w slices_S2048x14752_S2048x128_0_10512⟩,
     ⟨S2048x16, extractStridedSlice S2048x16 ![0, 6144] w slices_S2048x14752_S2048x16_0_6144⟩,
     ⟨S2048x16, extractStridedSlice S2048x16 ![0, 10640] w slices_S2048x14752_S2048x16_0_10640⟩,
     ⟨S2048x96, broadcastInDim S2048x96 ![] bcast_S_S2048x96 (constant S_ .f32 0x00000000#32)⟩]
    concatenates_S2048x256_S2048x128_S2048x16_S2048x16_S2048x96_S2048x512_d1) bitsLt_bf16_f32

theorem gathered_at (w : FVec Ideal S2048x14752 .f32) (k : Fin 2048) (e : Fin 512) :
    gathered w (ix2 k e) = if e.val < 256 then w (ix2 k (⟨8208 + e.val, by omega⟩ : Fin 14752))
      else if e.val < 384 then w (ix2 k (⟨10512 + (e.val - 256), by omega⟩ : Fin 14752))
      else if e.val < 400 then w (ix2 k (⟨6144 + (e.val - 384), by omega⟩ : Fin 14752))
      else if e.val < 416 then w (ix2 k (⟨10640 + (e.val - 400), by omega⟩ : Fin 14752)) else 0 := by
  have he := e.isLt
  pointwise [gathered]
  by_cases h1 : e.val < 256
  · rw [dif_pos h1, if_pos h1]
  rw [dif_neg h1, if_neg h1]
  by_cases h2 : e.val < 384
  · rw [dif_pos (by omega), if_pos h2]
  rw [dif_neg (by omega), if_neg h2]
  by_cases h3 : e.val < 400
  · rw [dif_pos (by omega), if_pos h3]
    refine congrArg (fun e => w (ix2 k e)) (Fin.ext ?_)
    dsimp only
    omega
  rw [dif_neg (by omega), if_neg h3]
  by_cases h4 : e.val < 416
  · rw [dif_pos (by omega), if_pos h4]
    refine congrArg (fun e => w (ix2 k e)) (Fin.ext ?_)
    dsimp only
    omega
  rw [dif_neg (by omega), if_neg h4]

/-- What the call is given as its weights. -/
theorem weights (c : Dev nD) : (V m c main_v6 : FVec Ideal S2048x512 .bf16) = gathered (wts m c) := by
  unfold V
  after_results_simp
  rfl

theorem blk2 (c : Dev nD) (t : Fin cfg0.N) (k : Fin 2048) (e : Fin 512) : iblk m c 2 t (ix2 k e) = gathered (wts m c) (ix2 k e) := by
  rw [← weights m c]
  blk_ext [iblk, idx t]

theorem blk3 (c : Dev nD) (t : Fin cfg0.N) (d : Fin 256) :
    iblk m c 3 t (ix2 (0 : Fin 1) d) = m ((c : Thread nD τ).loc main_arg3) (ix1 d) := by
  blk_point [iblk, V, idx t]

theorem blk4 (c : Dev nD) (t : Fin cfg0.N) (d : Fin 128) :
    iblk m c 4 t (ix2 (0 : Fin 1) d) = m ((c : Thread nD τ).loc main_arg4) (ix1 d) := by
  blk_point [iblk, V, idx t]

theorem blk5 (c : Dev nD) (t : Fin cfg0.N) (d : Fin 128) :
    iblk m c 5 t (ix2 (0 : Fin 1) d) = m ((c : Thread nD τ).loc main_arg5) (ix1 d) := by
  blk_point [iblk, V, idx t]

/-- The first point of a sequence leaves zeros. -/
theorem leaves_A (c : Dev nD) (t : Fin cfg0.N) (h0 : t.val % 17 = 0) :
    outsAt0 m c t.val t.isLt = (k0_pay1 (F := Ideal), k0_pay2 (F := Ideal), k0_pay3 (F := Ideal)) := by
  rw [outsAt0_A m c t h0 (by omega)]
  refine Prod.ext ?_ (Prod.ext ?_ ?_)
  · frame_out
  · frame_out
  · frame_out

/-- A later point leaves the three results of its rows. -/
theorem leaves_B (c : Dev nD) (t : Fin cfg0.N) (h0 : ¬t.val % 17 = 0) :
    outsAt0 m c t.val t.isLt = (k0_pay7 (F := Ideal) (iblk m c 0 t) (iblk m c 1 t) (iblk m c 2 t) (iblk m c 3 t),
      k0_pay4 (F := Ideal) (k0_pay8 (F := Ideal) (iblk m c 0 t) (iblk m c 1 t) (iblk m c 2 t))
        (k0_pay9 (F := Ideal) (iblk m c 0 t) (iblk m c 1 t) (iblk m c 2 t)) (iblk m c 4 t) (iblk m c 5 t),
      k0_pay5 (F := Ideal) (k0_pay6 (F := Ideal) (iblk m c 0 t) (iblk m c 1 t) (iblk m c 2 t))) := by
  rw [outsAt0_B m c t h0 (by omega)]
  refine Prod.ext ?_ (Prod.ext ?_ ?_)
  · frame_out
  · frame_out
  · frame_out

/-- The row of the results that row `r` of a point's block is. -/
abbrev place (t : Fin cfg0.N) (r : Fin 512) : Fin 8704 := ⟨t.val % 17 * 512 + r.val, by omega⟩

section
variable (c : Dev nD) (t : Fin cfg0.N) (ht : t.val / 17 < 2) (h1 : 1 ≤ t.val % 17) (r : Fin 512)
include h1

/-- The product of a point's normed rows and the gathered columns. -/
theorem prod_at (e : Fin 512) :
    k0_pay6 (F := Ideal) (iblk m c 0 t) (iblk m c 1 t) (iblk m c 2 t) (ix2 r e)
      = ∑ k : Fin 2048, normed (inp m c) (gain m c) (token ⟨t.val / 17, ht⟩ (place t r)) k * gathered (wts m c) (ix2 k e) := by
  rw [pay6_at]
  refine Finset.sum_congr rfl fun k _ => ?_
  rw [blk1, blk2]
  simp only [blk0 m c t ht h1]
  rfl

/-- A column of the product that is a column `j` of the projections. -/
theorem prod_col (e : Fin 512) (j : Fin 14752) (hj : ∀ k, gathered (wts m c) (ix2 k e) = wts m c (ix2 k j)) :
    k0_pay6 (F := Ideal) (iblk m c 0 t) (iblk m c 1 t) (iblk m c 2 t) (ix2 r e)
      = normedDot (inp m c) (gain m c) (wts m c) (token ⟨t.val / 17, ht⟩ (place t r)) j := by
  rw [prod_at m c t ht h1]
  unfold normedDot
  simp only [hj]

theorem lat_at (d : Fin 256) :
    k0_pay7 (F := Ideal) (iblk m c 0 t) (iblk m c 1 t) (iblk m c 2 t) (iblk m c 3 t) (ix3 (0 : Fin 1) r d)
      = latents (inp m c) (gain m c) (wts m c) (m ((c : Thread nD τ).loc main_arg3)) ⟨t.val / 17, ht⟩ (place t r) d := by
  have hp : ¬(place t r).val < 512 := by dsimp only [place]; omega
  rw [pay7_at, blk3]
  unfold latents
  rw [if_neg hp]
  refine congrArg (fun x => latAt x _ d) (funext fun k => ?_)
  exact prod_col m c t ht h1 r _ _ fun i => (gathered_at _ _ _).trans (if_pos k.isLt)

theorem key_at (d : Fin 128) :
    k0_pay4 (F := Ideal) (k0_pay8 (F := Ideal) (iblk m c 0 t) (iblk m c 1 t) (iblk m c 2 t))
        (k0_pay9 (F := Ideal) (iblk m c 0 t) (iblk m c 1 t) (iblk m c 2 t)) (iblk m c 4 t) (iblk m c 5 t) (ix3 (0 : Fin 1) r d)
      = keys (inp m c) (gain m c) (wts m c) (m ((c : Thread nD τ).loc main_arg4)) (m ((c : Thread nD τ).loc main_arg5))
          ⟨t.val / 17, ht⟩ (place t r) d := by
  have hp : ¬(place t r).val < 512 := by dsimp only [place]; omega
  rw [pay4_at _ _ _ _ _ _ (pay9_at _ _ _ _), blk4, blk5]
  unfold keys
  rw [if_neg hp]
  refine congrArg (fun x => scaleAt (centre x) _ _ d) (funext fun k => ?_)
  rw [pay8_at]
  refine prod_col m c t ht h1 r _ _ fun i => (gathered_at _ _ _).trans ?_
  rw [if_neg (by dsimp only; omega), if_pos (by dsimp only; omega)]
  refine congrArg (fun e => wts m c (ix2 i e)) (Fin.ext ?_)
  dsimp only
  omega

theorem narrow_at (j : Fin 128) :
    k0_pay5 (F := Ideal) (k0_pay6 (F := Ideal) (iblk m c 0 t) (iblk m c 1 t) (iblk m c 2 t)) (ix3 (0 : Fin 1) r j)
      = narrow (inp m c) (gain m c) (wts m c) ⟨t.val / 17, ht⟩ (place t r) j := by
  have hp : ¬(place t r).val < 512 := by dsimp only [place]; omega
  rw [pay5_at]
  unfold narrow
  rw [if_neg hp]
  by_cases k1 : j.val < 16
  · rw [if_pos k1]
    refine prod_col m c t ht h1 r _ _ fun i => (gathered_at _ _ _).trans ?_
    rw [if_neg (by dsimp only; omega), if_neg (by dsimp only; omega), if_pos (by dsimp only; omega)]
    refine congrArg (fun e => wts m c (ix2 i e)) (Fin.ext ?_)
    dsimp only
    omega
  rw [if_neg k1]
  by_cases k2 : j.val < 32
  · rw [if_pos k2]
    refine prod_col m c t ht h1 r _ _ fun i => (gathered_at _ _ _).trans ?_
    rw [if_neg (by dsimp only; omega), if_neg (by dsimp only; omega), if_neg (by dsimp only; omega), if_pos (by dsimp only; omega)]
    refine congrArg (fun e => wts m c (ix2 i e)) (Fin.ext ?_)
    dsimp only
    omega
  rw [if_neg k2, prod_at m c t ht h1]
  refine Finset.sum_eq_zero fun i _ => ?_
  rw [gathered_at, if_neg (by dsimp only; omega), if_neg (by dsimp only; omega), if_neg (by dsimp only; omega), if_neg (by dsimp only; omega)]
  exact mul_zero _

end

/-- What a point leaves in the latents' buffer. -/
theorem point6 (c : Dev nD) (t : Fin cfg0.N) (ht : t.val / 17 < 2) (r : Fin 512) (d : Fin 256) :
    (outsAt0 m c t.val t.isLt).1 (ix3 (0 : Fin 1) r d)
      = latents (inp m c) (gain m c) (wts m c) (m ((c : Thread nD τ).loc main_arg3)) ⟨t.val / 17, ht⟩ (place t r) d := by
  by_cases h0 : t.val % 17 = 0
  · rw [leaves_A m c t h0]
    exact (pay1_at r d).trans (if_pos (by dsimp only [place]; omega)).symm
  · rw [leaves_B m c t h0]
    exact lat_at m c t ht (by omega) r d

/-- What a point leaves in the keys' buffer. -/
theorem point7 (c : Dev nD) (t : Fin cfg0.N) (ht : t.val / 17 < 2) (r : Fin 512) (d : Fin 128) :
    (outsAt0 m c t.val t.isLt).2.1 (ix3 (0 : Fin 1) r d)
      = keys (inp m c) (gain m c) (wts m c) (m ((c : Thread nD τ).loc main_arg4)) (m ((c : Thread nD τ).loc main_arg5))
          ⟨t.val / 17, ht⟩ (place t r) d := by
  by_cases h0 : t.val % 17 = 0
  · rw [leaves_A m c t h0]
    exact (pay2_at r d).trans (if_pos (by dsimp only [place]; omega)).symm
  · rw [leaves_B m c t h0]
    exact key_at m c t ht (by omega) r d

/-- What a point leaves in the third result's buffer. -/
theorem point8 (c : Dev nD) (t : Fin cfg0.N) (ht : t.val / 17 < 2) (r : Fin 512) (d : Fin 128) :
    (outsAt0 m c t.val t.isLt).2.2 (ix3 (0 : Fin 1) r d)
      = narrow (inp m c) (gain m c) (wts m c) ⟨t.val / 17, ht⟩ (place t r) d := by
  by_cases h0 : t.val % 17 = 0
  · rw [leaves_A m c t h0]
    exact (pay3_at r d).trans (if_pos (by dsimp only [place]; omega)).symm
  · rw [leaves_B m c t h0]
    exact narrow_at m c t ht (by omega) r d

/-- The latents after the run. -/
theorem final6 (c : Dev nD) : (dats m 0 c).arrAt 6 (cfgs 0).N
    = ofEntries3 (φ := .bf16) (latents (inp m c) (gain m c) (wts m c) (m ((c : Thread nD τ).loc main_arg3))) := by
  refine (dats m 0 c).arrAt_eq_of_covers 6 _ (by decide +kernel) fun t hf y => ?_
  blk_simp
  rw [after0_6]
  obtain ⟨-, -, -, -, -, -, e6, -, -⟩ := idx t
  have hN : t.val < 34 := lt_of_lt_of_eq t.isLt (show cfg0.N = 34 from N_0)
  have ht : t.val / 17 < 2 := by omega
  have e0 : (⟨t.val / 17, ht⟩ : Fin 2) = (win0_6.blk t).view.emb y 0 := Fin.ext (by
    have h : (y 0).val < 1 := (y 0).isLt
    show t.val / 17 = win0_6.index t (0 : Fin 3) * 1 + 1 * (y 0).val
    rw [e6]; simp)
  have e1 : place t (y 1) = (win0_6.blk t).view.emb y 1 := Fin.ext (by
    show t.val % 17 * 512 + (y 1).val = win0_6.index t (1 : Fin 3) * 512 + 1 * (y 1).val
    rw [e6]; simp)
  have e2 : (y 2 : Fin 256) = (win0_6.blk t).view.emb y 2 := Fin.ext (by
    show (y 2).val = win0_6.index t (2 : Fin 3) * 256 + 1 * (y 2).val
    rw [e6]; simp)
  have y0 : y = ix3 (0 : Fin 1) (y 1 : Fin 512) (y 2 : Fin 256) :=
    (eq_ix3 (n0 := 1) (n1 := 512) (n2 := 256) y).trans (congrArg (fun z : Fin 1 => ix3 z (y 1 : Fin 512) (y 2 : Fin 256)) (Subsingleton.elim _ _))
  refine (congrArg (outsAt0 m c t.val t.isLt).1 y0).trans ((point6 m c t ht (y 1) (y 2)).trans ?_)
  rw [e0, e1, e2]
  rfl

/-- The keys after the run. -/
theorem final7 (c : Dev nD) : (dats m 0 c).arrAt 7 (cfgs 0).N
    = ofEntries3 (φ := .bf16) (keys (inp m c) (gain m c) (wts m c) (m ((c : Thread nD τ).loc main_arg4)) (m ((c : Thread nD τ).loc main_arg5))) := by
  refine (dats m 0 c).arrAt_eq_of_covers 7 _ (by decide +kernel) fun t hf y => ?_
  blk_simp
  rw [after0_7]
  obtain ⟨-, -, -, -, -, -, -, e7, -⟩ := idx t
  have hN : t.val < 34 := lt_of_lt_of_eq t.isLt (show cfg0.N = 34 from N_0)
  have ht : t.val / 17 < 2 := by omega
  have e0 : (⟨t.val / 17, ht⟩ : Fin 2) = (win0_7.blk t).view.emb y 0 := Fin.ext (by
    have h : (y 0).val < 1 := (y 0).isLt
    show t.val / 17 = win0_7.index t (0 : Fin 3) * 1 + 1 * (y 0).val
    rw [e7]; simp)
  have e1 : place t (y 1) = (win0_7.blk t).view.emb y 1 := Fin.ext (by
    show t.val % 17 * 512 + (y 1).val = win0_7.index t (1 : Fin 3) * 512 + 1 * (y 1).val
    rw [e7]; simp)
  have e2 : (y 2 : Fin 128) = (win0_7.blk t).view.emb y 2 := Fin.ext (by
    show (y 2).val = win0_7.index t (2 : Fin 3) * 128 + 1 * (y 2).val
    rw [e7]; simp)
  have y0 : y = ix3 (0 : Fin 1) (y 1 : Fin 512) (y 2 : Fin 128) :=
    (eq_ix3 (n0 := 1) (n1 := 512) (n2 := 128) y).trans (congrArg (fun z : Fin 1 => ix3 z (y 1 : Fin 512) (y 2 : Fin 128)) (Subsingleton.elim _ _))
  refine (congrArg (outsAt0 m c t.val t.isLt).2.1 y0).trans ((point7 m c t ht (y 1) (y 2)).trans ?_)
  rw [e0, e1, e2]
  rfl

/-- The narrow columns after the run. -/
theorem final8 (c : Dev nD) : (dats m 0 c).arrAt 8 (cfgs 0).N
    = ofEntries3 (φ := .f32) (narrow (inp m c) (gain m c) (wts m c)) := by
  refine (dats m 0 c).arrAt_eq_of_covers 8 _ (by decide +kernel) fun t hf y => ?_
  blk_simp
  rw [after0_8]
  obtain ⟨-, -, -, -, -, -, -, -, e8⟩ := idx t
  have hN : t.val < 34 := lt_of_lt_of_eq t.isLt (show cfg0.N = 34 from N_0)
  have ht : t.val / 17 < 2 := by omega
  have e0 : (⟨t.val / 17, ht⟩ : Fin 2) = (win0_8.blk t).view.emb y 0 := Fin.ext (by
    have h : (y 0).val < 1 := (y 0).isLt
    show t.val / 17 = win0_8.index t (0 : Fin 3) * 1 + 1 * (y 0).val
    rw [e8]; simp)
  have e1 : place t (y 1) = (win0_8.blk t).view.emb y 1 := Fin.ext (by
    show t.val % 17 * 512 + (y 1).val = win0_8.index t (1 : Fin 3) * 512 + 1 * (y 1).val
    rw [e8]; simp)
  have e2 : (y 2 : Fin 128) = (win0_8.blk t).view.emb y 2 := Fin.ext (by
    show (y 2).val = win0_8.index t (2 : Fin 3) * 128 + 1 * (y 2).val
    rw [e8]; simp)
  have y0 : y = ix3 (0 : Fin 1) (y 1 : Fin 512) (y 2 : Fin 128) :=
    (eq_ix3 (n0 := 1) (n1 := 512) (n2 := 128) y).trans (congrArg (fun z : Fin 1 => ix3 z (y 1 : Fin 512) (y 2 : Fin 128)) (Subsingleton.elim _ _))
  refine (congrArg (outsAt0 m c t.val t.isLt).2.2 y0).trans ((point8 m c t ht (y 1) (y 2)).trans ?_)
  rw [e0, e1, e2]
  rfl

end Cert.Kernel7Ideal.Small

end
-- ==== Proof.lean ====
/- The claims of this directory, proved. -/
module

public import proofs.«01_k».proof.Defs
public import proofs.«01_k».proof.Proof.Gen.Kernel
public import proofs.«01_k».proof.Proof.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.InProj
public import proofs.«01_k».proof.Proof.Ffn
public import proofs.«01_k».proof.Proof.Mix
public import proofs.«01_k».proof.Proof.Xa
public import proofs.«01_k».proof.Proof.Kv
public import proofs.«01_k».proof.Proof.Small
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.TcCoe Idealize.SL.Sem

/-- `dsa`'s program ends, leaves its arguments as they were and no semaphore raised. -/
theorem frame_kernel [Cert.Kernel.Facts] : Cert.quiescent_Kernel := fun m ρ _ => Cert.Proof.Kernel.run (F := Bits) m ρ

/-- The reference of the in-projection call ends and leaves its arguments as they were. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The in-projection call and its reference leave the same result. -/
theorem agree2 : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨a0, a1, a2⟩ := hagree c
  rw [(h c).1]
  refine Eq.trans ?_ (Cert.Kernel2Ideal.InProj.final m c).symm
  refine (Cert.Proof.InProj.ref_eq m' c).trans ?_
  rw [a0, a1, a2]

/-- The reference of the feed-forward call ends and leaves its arguments as they were. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The feed-forward call and its reference leave the same result. -/
theorem agree3 : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨a0, a1, a2, a3, a4, a5⟩ := hagree c
  rw [(h c).1]
  refine Eq.trans ?_ (Cert.Kernel3Ideal.Ffn.final m c).symm
  refine (Cert.Proof.Ffn.ref_eq m' c).trans ?_
  rw [a0, a1, a2, a3, a4, a5]

/-- The reference of the merge call ends and leaves its arguments as they were. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The merge call and its reference leave the same result. -/
theorem agree4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨a0, a1, a2, a3, a4, a5, a6, a7⟩ := hagree c
  rw [(h c).1]
  refine Eq.trans ?_ (Cert.Kernel4Ideal.Mix.final m c).symm
  refine (Cert.Proof.Mix.ref_eq m' c).trans ?_
  rw [a0, a1, a2, a3, a4, a5, a6, a7]

/-- The reference of the cross-attention call ends and leaves its arguments as they were. -/
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The cross-attention call and its reference leave the same result. -/
theorem agree5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  obtain ⟨a0, a1, a2, a3, a4, a5⟩ := hagree c
  rw [(h c).1]
  refine Eq.trans ?_ (Cert.Kernel5Ideal.Xa.final m c).symm
  refine (Cert.Proof.Xa.ref_eq m' c).trans ?_
  rw [a0, a1, a2, a3, a4, a5]

/-- The reference of the keys-and-values call ends and leaves its arguments as they were. -/
theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The keys-and-values call and its reference leave the same result. -/
theorem agree6 : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Proof.Kv.ref_run m' ρ')
  obtain ⟨a0, a1, a2⟩ := hagree c
  rw [(h c).1]
  refine Eq.trans ?_ (Cert.Kernel6Ideal.Kv.final m c).symm
  rw [a0, a1, a2]

/-- The reference of the narrow projections ends and leaves its arguments as they were. -/
theorem frame_ref7 : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The call of the narrow projections and its reference leave the same three results. -/
theorem agree7 : Cert.algebraic_Kernel7Ideal_Reference7Ideal := by
  intro m ρ m' ρ' _ hagree
  refine ⟨_, _, _, Cert.Kernel7Ideal.Value.run_blocks (F := Ideal) m ρ, ?_⟩
  refine (θ_run Cert.Reference7Ideal.defs _ _).mono (fun _ h c => ⟨?_, ?_, ?_, (h c).2.2.2⟩) (Cert.Proof.Small.ref_run m' ρ')
  · obtain ⟨a0, a1, a2, a3, -, -⟩ := hagree c
    rw [(h c).1]
    refine Eq.trans ?_ (Cert.Kernel7Ideal.Small.final6 m c).symm
    rw [a0, a1, a2, a3]
  · obtain ⟨a0, a1, a2, -, a4, a5⟩ := hagree c
    rw [(h c).2.1]
    refine Eq.trans ?_ (Cert.Kernel7Ideal.Small.final7 m c).symm
    rw [a0, a1, a2, a4, a5]
  · obtain ⟨a0, a1, a2, -, -, -⟩ := hagree c
    rw [(h c).2.2.1]
    refine Eq.trans ?_ (Cert.Kernel7Ideal.Small.final8 m c).symm
    rw [a0, a1, a2]

/-- All claims of the directory. -/
theorem claim : Cert.Claim :=
  ⟨Cert.Kernel.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    frame_kernel,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    frame_ref3,
    fun m ρ _ => Cert.Kernel4.Gen.frame m ρ,
    fun m ρ _ => Cert.Kernel4Ideal.Gen.frame m ρ,
    frame_ref4,
    fun m ρ _ => Cert.Kernel5.Gen.frame m ρ,
    fun m ρ _ => Cert.Kernel5Ideal.Gen.frame m ρ,
    frame_ref5,
    fun m ρ _ => Cert.Kernel6.Gen.frame m ρ,
    fun m ρ _ => Cert.Kernel6Ideal.Gen.frame m ρ,
    frame_ref6,
    fun m ρ _ => Cert.Kernel7.Gen.frame m ρ,
    fun m ρ _ => Cert.Kernel7Ideal.Gen.frame m ρ,
    frame_ref7,
    fun m ρ _ => Cert.Kernel8.Gen.frame m ρ,
    fun m ρ _ => Cert.Kernel8Ideal.Gen.frame m ρ,
    (trivial : Cert.preserves_Kernel2_Kernel2Ideal),
    agree2,
    (trivial : Cert.preserves_Kernel3_Kernel3Ideal),
    agree3,
    (trivial : Cert.preserves_Kernel4_Kernel4Ideal),
    agree4,
    (trivial : Cert.preserves_Kernel5_Kernel5Ideal),
    agree5,
    (trivial : Cert.preserves_Kernel6_Kernel6Ideal),
    agree6,
    (trivial : Cert.preserves_Kernel7_Kernel7Ideal),
    agree7,
    (trivial : Cert.preserves_Kernel8_Kernel8Ideal)⟩

end Cert.Proof

end
